-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_graph [hPre_graph : Cert.Pre_graph.Facts] (m : (ℓ : Loc Cert.KernelIdeal.nD Cert.KernelIdeal.τ Cert.KernelIdeal.sig) → Buf (Elt Ideal) ℓ) : Prop :=
  ∀ c : Dev Cert.KernelIdeal.nD,
    (Cert.Pre_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graph [hPre_graph : Cert.Pre_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_graph [hKernelIdeal : Cert.KernelIdeal.Facts] [hPre_graph : Cert.Pre_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_graph [hReferenceIdeal : Cert.ReferenceIdeal.Facts] [hPre_graph : Cert.Pre_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_graph [hKernelIdeal : Cert.KernelIdeal.Facts] [hReferenceIdeal : Cert.ReferenceIdeal.Facts] [hPre_graph : Cert.Pre_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_graph : Cert.Pre_graph.Facts),
    quiescent_Kernel (hKernel := hKernel)
    ∧ quiescent_KernelIdeal (hKernelIdeal := hKernelIdeal)
    ∧ quiescent_KernelIdeal_pre_graph (hKernelIdeal := hKernelIdeal) (hPre_graph := hPre_graph)
    ∧ quiescent_ReferenceIdeal (hReferenceIdeal := hReferenceIdeal)
    ∧ quiescent_ReferenceIdeal_pre_graph (hReferenceIdeal := hReferenceIdeal) (hPre_graph := hPre_graph)
    ∧ preserves_Kernel_KernelIdeal
    ∧ algebraic_KernelIdeal_ReferenceIdeal_pre_graph (hKernelIdeal := hKernelIdeal) (hReferenceIdeal := hReferenceIdeal) (hPre_graph := hPre_graph)
-- ==== Pre_graph.lean ====
abbrev S4096x256 : Shape := ⟨2, ![4096, 256]⟩
abbrev S4096x4096 : Shape := ⟨2, ![4096, 4096]⟩
abbrev S4x256x64 : Shape := ⟨3, ![4, 256, 64]⟩
abbrev S4x64 : Shape := ⟨2, ![4, 64]⟩
abbrev S_ : Shape := ⟨0, ![]⟩
abbrev S4096 : Shape := ⟨1, ![4096]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  reducesTo_S4096x4096_S4096_d1 : S4096x4096.ReducesTo [1] S4096
  reducesTo_S4096_S_d0 : S4096.ReducesTo [0] S_
  bcast_S_S4096x256 : S_.BroadcastsInDim S4096x256 (![] : Fin 0 → Fin S4096x256.rank)
  reducesTo_S4096x256_S_d0_1 : S4096x256.ReducesTo [0, 1] S_
  bcast_S_S4x256x64 : S_.BroadcastsInDim S4x256x64 (![] : Fin 0 → Fin S4x256x64.rank)
  reducesTo_S4x256x64_S_d0_1_2 : S4x256x64.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part2 {F : FTy → Type} [FloatOps F] (main_arg5 : FVec F S4x64 .f32) (main_v33 : IVec S_ 1) : IVec S_ 1 :=
  let main_v34 : FVec F S4x64 .f32 := Host.absf main_arg5
  let main_cst_12 : FVec F S_ .f32 := constant S_ .f32 0x7F800000#32
  let main_v35 : FVec F S4x64 .f32 := broadcastInDim S4x64 ![] bcast_S_S4x64 main_cst_12
  let main_v36 : IVec S4x64 1 := cmpf .olt main_v34 main_v35
  let main_c_13 : IVec S_ 1 := constantI S_ 1 1#1
  let main_v37 : IVec S_ 1 := (fun x v => Host.reduce IntOp.andi x v reducesTo_S4x64_S_d0_1 h_S_) main_v36 main_c_13
  let main_v38 : IVec S_ 1 := andi main_v33 main_v37
  main_v38

def fn_part1 {F : FTy → Type} [FloatOps F] (main_arg0 : FVec F S4096x256 .f32) (main_arg3 : FVec F S4x256x64 .f32) (main_arg4 : FVec F S4x64 .f32) (main_arg5 : FVec F S4x64 .f32) (main_v12 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v12 main_v17
  let main_v19 : FVec F S4096x256 .f32 := Host.absf main_arg0
  let main_cst_6 : FVec F S_ .f32 := constant S_ .f32 0x7F800000#32
  let main_v20 : FVec F S4096x256 .f32 := broadcastInDim S4096x256 ![] bcast_S_S4096x256 main_cst_6
  let main_v21 : IVec S4096x256 1 := cmpf .olt main_v19 main_v20
  let main_c_7 : IVec S_ 1 := constantI S_ 1 1#1
  let main_v22 : IVec S_ 1 := (fun x v => Host.reduce IntOp.andi x v reducesTo_S4096x256_S_d0_1 h_S_) main_v21 main_c_7
  let main_v23 : IVec S_ 1 := andi main_v18 main_v22
  let main_v24 : FVec F S4x256x64 .f32 := Host.absf main_arg3
  let main_cst_8 : FVec F S_ .f32 := constant S_ .f32 0x7F800000#32
  let main_v25 : FVec F S4x256x64 .f32 := broadcastInDim S4x256x64 ![] bcast_S_S4x256x64 main_cst_8
  let main_v26 : IVec S4x256x64 1 := cmpf .olt main_v24 main_v25
  let main_c_9 : IVec S_ 1 := constantI S_ 1 1#1
  let main_v27 : IVec S_ 1 := (fun x v => Host.reduce IntOp.andi x v reducesTo_S4x256x64_S_d0_1_2 h_S_) main_v26 main_c_9
  let main_v28 : IVec S_ 1 := andi main_v23 main_v27
  let main_v29 : FVec F S4x64 .f32 := Host.absf main_arg4
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg5 main_v33

def fn {F : FTy → Type} [FloatOps F] (main_arg0 : FVec F S4096x256 .f32) (main_arg1 : FVec F S4096x4096 .f32) (main_arg2 : FVec F S4096x4096 .f32) (main_arg3 : FVec F S4x256x64 .f32) (main_arg4 : FVec F S4x64 .f32) (main_arg5 : FVec F S4x64 .f32) : IVec S_ 1 :=
  let main_v0 : IVec S4096x4096 32 := iotaInDim S4096x4096 32 0
  let main_v1 : IVec S4096x4096 32 := iotaInDim S4096x4096 32 1
  let main_cst : FVec F S_ .f32 := constant S_ .f32 0x00000000#32
  let main_v2 : FVec F S4096x4096 .f32 := broadcastInDim S4096x4096 ![] bcast_S_S4096x4096 main_cst
  let main_v3 : IVec S4096x4096 1 := cmpf .oeq main_arg1 main_v2
  let main_cst_0 : FVec F S_ .f32 := constant S_ .f32 0x3F800000#32
  let main_v4 : FVec F S4096x4096 .f32 := broadcastInDim S4096x4096 ![] bcast_S_S4096x4096 main_cst_0
  let main_v5 : IVec S4096x4096 1 := cmpf .oeq main_arg1 main_v4
  let main_v6 : IVec S4096x4096 1 := ori main_v3 main_v5
  let main_c : IVec S_ 1 := constantI S_ 1 1#1
  let main_v7 : IVec S_ 1 := (fun x v => Host.reduce IntOp.andi x v reducesTo_S4096x4096_S_d0_1 h_S_) main_v6 main_c
  let main_cst_1 : FVec F S_ .f32 := constant S_ .f32 0x00000000#32
  let main_v8 : FVec F S4096x4096 .f32 := broadcastInDim S4096x4096 ![] bcast_S_S4096x4096 main_cst_1
  let main_v9 : IVec S4096x4096 1 := cmpf .ogt main_arg1 main_v8
  let main_c_2 : IVec S_ 1 := constantI S_ 1 0#1
  let main_v10 : IVec S4096 1 := (fun x v => Host.reduce IntOp.ori x v reducesTo_S4096x4096_S4096_d1 h_S_) main_v9 main_c_2
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v7 main_v11
  let main_cst_4 : FVec F S_ .f32 := constant S_ .f32 0x00000000#32
  let main_v13 : FVec F S4096x4096 .f32 := broadcastInDim S4096x4096 ![] bcast_S_S4096x4096 main_cst_4
  let main_v14 : IVec S4096x4096 1 := cmpf .ogt main_arg2 main_v13
  let main_v15 : IVec S4096x4096 1 := cmpi .eq main_v0 main_v1
  let main_v16 : IVec S4096x4096 1 := cmpi .eq main_v14 main_v15
  fn_part1 (F := F) main_arg0 main_arg3 main_arg4 main_arg5 main_v12 main_v16
-- ==== Kernel.lean ====
abbrev S4096x256 : Shape := ⟨2, ![4096, 256]⟩
abbrev S4096x4096 : Shape := ⟨2, ![4096, 4096]⟩
abbrev S4x256x64 : Shape := ⟨3, ![4, 256, 64]⟩
abbrev S4x64 : Shape := ⟨2, ![4, 64]⟩
abbrev S256x4x64 : Shape := ⟨3, ![256, 4, 64]⟩
abbrev S256x256 : Shape := ⟨2, ![256, 256]⟩
abbrev S4x4 : Shape := ⟨2, ![4, 4]⟩
abbrev S_ : Shape := ⟨0, ![]⟩
abbrev S4x1x64 : Shape := ⟨3, ![4, 1, 64]⟩
abbrev S4x4x1 : Shape := ⟨3, ![4, 4, 1]⟩
abbrev S4x4x64 : Shape := ⟨3, ![4, 4, 64]⟩
abbrev S4x256 : Shape := ⟨2, ![4, 256]⟩
abbrev S256x4 : Shape := ⟨2, ![256, 4]⟩
abbrev S512x4096 : Shape := ⟨2, ![512, 4096]⟩
abbrev S512x256 : Shape := ⟨2, ![512, 256]⟩
abbrev S4x4096x65 : Shape := ⟨3, ![4, 4096, 65]⟩
abbrev S4096x4 : Shape := ⟨2, ![4096, 4]⟩
abbrev S4x4096 : Shape := ⟨2, ![4, 4096]⟩
abbrev S4096x64 : Shape := ⟨2, ![4096, 64]⟩
abbrev S1x4096x64 : Shape := ⟨3, ![1, 4096, 64]⟩
abbrev S4096x1 : Shape := ⟨2, ![4096, 1]⟩
abbrev S1x4096x1 : Shape := ⟨3, ![1, 4096, 1]⟩
abbrev S512x4 : Shape := ⟨2, ![512, 4]⟩
abbrev S512x1 : Shape := ⟨2, ![512, 1]⟩
abbrev S1x4096 : Shape := ⟨2, ![1, 4096]⟩
abbrev S1x4096x65 : Shape := ⟨3, ![1, 4096, 65]⟩
abbrev S4096x65 : Shape := ⟨2, ![4096, 65]⟩
abbrev S512x65 : Shape := ⟨2, ![512, 65]⟩
abbrev S512x64 : Shape := ⟨2, ![512, 64]⟩
abbrev S1x512x64 : Shape := ⟨3, ![1, 512, 64]⟩

abbrev nBuf : Space → Nat
  | .hbm => 34
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x4096, .f32⟩
  | .hbm, ⟨3, _⟩ => ⟨S4x256x64, .f32⟩
  | .hbm, ⟨4, _⟩ => ⟨S4x64, .f32⟩
  | .hbm, ⟨5, _⟩ => ⟨S4x64, .f32⟩
  | .hbm, ⟨6, _⟩ => ⟨S256x4x64, .f32⟩
  | .hbm, ⟨7, _⟩ => ⟨S256x256, .f32⟩
  | .hbm, ⟨8, _⟩ => ⟨S256x256, .bf16⟩
  | .hbm, ⟨9, _⟩ => ⟨S4x4, .i32⟩
  | .hbm, ⟨10, _⟩ => ⟨S4x4, .i32⟩
  | .hbm, ⟨11, _⟩ => ⟨S_, .i32⟩
  | .hbm, ⟨12, _⟩ => ⟨S4x4, .i32⟩
  | .hbm, ⟨13, _⟩ => ⟨S4x4, .i32⟩
  | .hbm, ⟨14, _⟩ => ⟨S4x4, .i1⟩
  | .hbm, ⟨15, _⟩ => ⟨S4x4, .f32⟩
  | .hbm, ⟨16, _⟩ => ⟨S4x1x64, .f32⟩
  | .hbm, ⟨17, _⟩ => ⟨S4x4x1, .f32⟩
  | .hbm, ⟨18, _⟩ => ⟨S4x4x64, .f32⟩
  | .hbm, ⟨19, _⟩ => ⟨S4x4x64, .f32⟩
  | .hbm, ⟨20, _⟩ => ⟨S4x4x64, .f32⟩
  | .hbm, ⟨21, _⟩ => ⟨S4x256, .f32⟩
  | .hbm, ⟨22, _⟩ => ⟨S256x4, .f32⟩
  | .hbm, ⟨23, _⟩ => ⟨S256x4, .bf16⟩
  | .hbm, ⟨24, _⟩ => ⟨S4x1x64, .f32⟩
  | .hbm, ⟨25, _⟩ => ⟨S4x4x1, .f32⟩
  | .hbm, ⟨26, _⟩ => ⟨S4x4x64, .f32⟩
  | .hbm, ⟨27, _⟩ => ⟨S4x4x64, .f32⟩
  | .hbm, ⟨28, _⟩ => ⟨S4x4x64, .f32⟩
  | .hbm, ⟨29, _⟩ => ⟨S4x256, .f32⟩
  | .hbm, ⟨30, _⟩ => ⟨S256x4, .f32⟩
  | .hbm, ⟨31, _⟩ => ⟨S256x4, .bf16⟩
  | .hbm, ⟨32, _⟩ => ⟨S4096x256, .bf16⟩
  | .hbm, ⟨33, _⟩ => ⟨S4096x256, .f32⟩
  | .local _ .vmem, ⟨0, _⟩ => ⟨S4096x256, .bf16⟩
  | .local _ .vmem, ⟨1, _⟩ => ⟨S256x256, .bf16⟩
  | .local _ .vmem, ⟨2, _⟩ => ⟨S256x4, .bf16⟩
  | .local _ .vmem, ⟨3, _⟩ => ⟨S256x4, .bf16⟩
  | .local _ .vmem, ⟨4, _⟩ => ⟨S512x4096, .f32⟩
  | .local _ .vmem, ⟨5, _⟩ => ⟨S512x4096, .f32⟩
  | .local _ .vmem, ⟨6, _⟩ => ⟨S512x256, .f32⟩
  | .local _ .vmem, ⟨7, _⟩ => ⟨S512x256, .f32⟩
  | .local _ .vmem, ⟨8, _⟩ => ⟨S4x4096x65, .bf16⟩
  | .local _ .vmem, ⟨9, _⟩ => ⟨S4096x4, .bf16⟩
  | .local _ .vmem, ⟨10, _⟩ => ⟨S4096x4, .bf16⟩
  | .local _ .vmem, ⟨11, _⟩ => ⟨S4x4096, .bf16⟩
  | .local _ .vmem, ⟨12, _⟩ => ⟨S4x4096, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v3 : BitVec 32 := Scalar.muli arg0 c512_i32
  let v6 : Index := Scalar.indexCast v3
  let c0_2 : Index := 0#32
  ![v6.toNat, 0]
def k0_off2 (i : grid0.Coords) : Fin 3 → Nat :=
  let c0_12 : Index := 0#32
  let arg0 : BitVec 32 := BitVec.ofNat 32 (i 0).val
  let c512_i32 : BitVec 32 := 512#32
  let v3 : BitVec 32 := Scalar.muli arg0 c512_i32
  let v31 : Index := Scalar.indexCast v3
  let c0_13 : Index := 0#32
  ![0, v31.toNat, 0]
def k0_off3 (i : grid0.Coords) : Fin 3 → Nat :=
  let c1_27 : Index := 1#32
  let arg0 : BitVec 32 := BitVec.ofNat 32 (i 0).val
  let c512_i32 : BitVec 32 := 512#32
  let v3 : BitVec 32 := Scalar.muli arg0 c512_i32
  let v66 : Index := Scalar.indexCast v3
  let c0_28 : Index := 0#32
  ![1, v66.toNat, 0]
def k0_off4 (i : grid0.Coords) : Fin 3 → Nat :=
  let c2_41 : Index := 2#32
  let arg0 : BitVec 32 := BitVec.ofNat 32 (i 0).val
  let c512_i32 : BitVec 32 := 512#32
  let v3 : BitVec 32 := Scalar.muli arg0 c512_i32
  let v101 : Index := Scalar.indexCast v3
  let c0_42 : Index := 0#32
  ![2, v101.toNat, 0]
def k0_off5 (i : grid0.Coords) : Fin 3 → Nat :=
  let c3_55 : Index := 3#32
  let arg0 : BitVec 32 := BitVec.ofNat 32 (i 0).val
  let c512_i32 : BitVec 32 := 512#32
  let v3 : BitVec 32 := Scalar.muli arg0 c512_i32
  let v136 : Index := Scalar.indexCast v3
  let c0_56 : Index := 0#32
  ![3, v136.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x4 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4096x256 : Shape := ⟨2, ![4096, 256]⟩
abbrev S4096x4096 : Shape := ⟨2, ![4096, 4096]⟩
abbrev S4x256x64 : Shape := ⟨3, ![4, 256, 64]⟩
abbrev S4x64 : Shape := ⟨2, ![4, 64]⟩
abbrev S1x256x64 : Shape := ⟨3, ![1, 256, 64]⟩
abbrev S256x64 : Shape := ⟨2, ![256, 64]⟩
abbrev S1x64 : Shape := ⟨2, ![1, 64]⟩
abbrev S64 : Shape := ⟨1, ![64]⟩
abbrev S4096x64 : Shape := ⟨2, ![4096, 64]⟩
abbrev S4096 : Shape := ⟨1, ![4096]⟩
abbrev S4096x1 : Shape := ⟨2, ![4096, 1]⟩
abbrev S1x4096 : Shape := ⟨2, ![1, 4096]⟩
abbrev S_ : Shape := ⟨0, ![]⟩

abbrev nBuf : Space → Nat
  | .hbm => 359
  | .vmem => 0
  | .smem => 0
  | _ => 0

abbrev hbmTy0_0 (i : Nat) : BufTy := match i % 128 with
  | 0 => ⟨S4096x256, .f32⟩
  | 1 => ⟨S4096x4096, .f32⟩
  | 2 => ⟨S4096x4096, .f32⟩
  | 3 => ⟨S4x256x64, .f32⟩
  | 4 => ⟨S4x64, .f32⟩
  | 5 => ⟨S4x64, .f32⟩
  | 6 => ⟨S1x256x64, .f32⟩
  | 7 => ⟨S256x64, .f32⟩
  | 8 => ⟨S1x64, .f32⟩
  | 9 => ⟨S64, .f32⟩
  | 10 => ⟨S1x64, .f32⟩
  | 11 => ⟨S64, .f32⟩
  | 12 => ⟨S4096x64, .f32⟩
  | 13 => ⟨S4096, .f32⟩
  | 14 => ⟨S4096, .f32⟩
  | 15 => ⟨S4096x1, .f32⟩
  | 16 => ⟨S1x4096, .f32⟩
  | 17 => ⟨S4096x4096, .f32⟩
  | 18 => ⟨S4096x4096, .f32⟩
  | 19 => ⟨S4096x4096, .f32⟩
  | 20 => ⟨S_, .f32⟩
  | 21 => ⟨S_, .f32⟩
  | 22 => ⟨S4096x4096, .f32⟩
  | 23 => ⟨S4096x4096, .i1⟩
  | 24 => ⟨S_, .f32⟩
  | 25 => ⟨S4096x4096, .f32⟩
  | 26 => ⟨S4096x4096, .f32⟩
  | 27 => ⟨S4096x4096, .f32⟩
  | 28 => ⟨S_, .f32⟩
  | 29 => ⟨S4096x4096, .f32⟩
  | 30 => ⟨S4096x4096, .i1⟩
  | 31 => ⟨S_, .f32⟩
  | 32 => ⟨S_, .f32⟩
  | 33 => ⟨S4096x4096, .f32⟩
  | 34 => ⟨S4096x4096, .f32⟩
  | 35 => ⟨S_, .f32⟩
  | 36 => ⟨S4096, .f32⟩
  | 37 => ⟨S_, .f32⟩
  | 38 => ⟨S4096, .f32⟩
  | 39 => ⟨S4096, .f32⟩
  | 40 => ⟨S4096x1, .f32⟩
  | 41 => ⟨S4096x4096, .f32⟩
  | 42 => ⟨S4096x4096, .f32⟩
  | 43 => ⟨S4096x4096, .f32⟩
  | 44 => ⟨S_, .f32⟩
  | 45 => ⟨S4096, .f32⟩
  | 46 => ⟨S4096x1, .f32⟩
  | 47 => ⟨S4096x4096, .f32⟩
  | 48 => ⟨S4096x4096, .f32⟩
  | 49 => ⟨S4096x64, .f32⟩
  | 50 => ⟨S_, .f32⟩
  | 51 => ⟨S4096x4096, .f32⟩
  | 52 => ⟨S4096x4096, .i1⟩
  | 53 => ⟨S_, .f32⟩
  | 54 => ⟨S_, .f32⟩
  | 55 => ⟨S4096x4096, .f32⟩
  | 56 => ⟨S4096x4096, .f32⟩
  | 57 => ⟨S_, .f32⟩
  | 58 => ⟨S4096, .f32⟩
  | 59 => ⟨S_, .f32⟩
  | 60 => ⟨S4096, .f32⟩
  | 61 => ⟨S4096, .f32⟩
  | 62 => ⟨S4096x1, .f32⟩
  | 63 => ⟨S4096x4096, .f32⟩
  | 64 => ⟨S4096x4096, .f32⟩
  | 65 => ⟨S4096x4096, .f32⟩
  | 66 => ⟨S_, .f32⟩
  | 67 => ⟨S4096, .f32⟩
  | 68 => ⟨S4096x1, .f32⟩
  | 69 => ⟨S4096x4096, .f32⟩
  | 70 => ⟨S4096x4096, .f32⟩
  | 71 => ⟨S4096x64, .f32⟩
  | 72 => ⟨S_, .f32⟩
  | 73 => ⟨S4096x64, .f32⟩
  | 74 => ⟨S4096x64, .f32⟩
  | 75 => ⟨S_, .f32⟩
  | 76 => ⟨S4096x64, .f32⟩
  | 77 => ⟨S4096x64, .f32⟩
  | 78 => ⟨S4096x64, .f32⟩
  | 79 => ⟨S_, .f32⟩
  | 80 => ⟨S4096x64, .f32⟩
  | 81 => ⟨S4096x64, .i1⟩
  | 82 => ⟨S_, .f32⟩
  | 83 => ⟨S4096x64, .f32⟩
  | 84 => ⟨S4096x64, .i1⟩
  | 85 => ⟨S_, .f32⟩
  | 86 => ⟨S_, .f32⟩
  | 87 => ⟨S4096x64, .f32⟩
  | 88 => ⟨S4096x64, .f32⟩
  | 89 => ⟨S4096x64, .f32⟩
  | 90 => ⟨S_, .f32⟩
  | 91 => ⟨S4096x64, .f32⟩
  | 92 => ⟨S4096x64, .f32⟩
  | 93 => ⟨S4096x64, .f32⟩
  | 94 => ⟨S1x256x64, .f32⟩
  | 95 => ⟨S256x64, .f32⟩
  | 96 => ⟨S1x64, .f32⟩
  | 97 => ⟨S64, .f32⟩
  | 98 => ⟨S1x64, .f32⟩
  | 99 => ⟨S64, .f32⟩
  | 100 => ⟨S4096x64, .f32⟩
  | 101 => ⟨S4096, .f32⟩
  | 102 => ⟨S4096, .f32⟩
  | 103 => ⟨S4096x1, .f32⟩
  | 104 => ⟨S1x4096, .f32⟩
  | 105 => ⟨S4096x4096, .f32⟩
  | 106 => ⟨S4096x4096, .f32⟩
  | 107 => ⟨S4096x4096, .f32⟩
  | 108 => ⟨S_, .f32⟩
  | 109 => ⟨S_, .f32⟩
  | 110 => ⟨S4096x4096, .f32⟩
  | 111 => ⟨S4096x4096, .i1⟩
  | 112 => ⟨S_, .f32⟩
  | 113 => ⟨S4096x4096, .f32⟩
  | 114 => ⟨S4096x4096, .f32⟩
  | 115 => ⟨S4096x4096, .f32⟩
  | 116 => ⟨S_, .f32⟩
  | 117 => ⟨S4096x4096, .f32⟩
  | 118 => ⟨S4096x4096, .i1⟩
  | 119 => ⟨S_, .f32⟩
  | 120 => ⟨S_, .f32⟩
  | 121 => ⟨S4096x4096, .f32⟩
  | 122 => ⟨S4096x4096, .f32⟩
  | 123 => ⟨S_, .f32⟩
  | 124 => ⟨S4096, .f32⟩
  | 125 => ⟨S_, .f32⟩
  | 126 => ⟨S4096, .f32⟩
  | 127 => ⟨S4096, .f32⟩
  | _ => ⟨S4096x256, .f32⟩

abbrev hbmTy0_1 (i : Nat) : BufTy := match i % 128 with
  | 0 => ⟨S4096x1, .f32⟩
  | 1 => ⟨S4096x4096, .f32⟩
  | 2 => ⟨S4096x4096, .f32⟩
  | 3 => ⟨S4096x4096, .f32⟩
  | 4 => ⟨S_, .f32⟩
  | 5 => ⟨S4096, .f32⟩
  | 6 => ⟨S4096x1, .f32⟩
  | 7 => ⟨S4096x4096, .f32⟩
  | 8 => ⟨S4096x4096, .f32⟩
  | 9 => ⟨S4096x64, .f32⟩
  | 10 => ⟨S_, .f32⟩
  | 11 => ⟨S4096x4096, .f32⟩
  | 12 => ⟨S4096x4096, .i1⟩
  | 13 => ⟨S_, .f32⟩
  | 14 => ⟨S_, .f32⟩
  | 15 => ⟨S4096x4096, .f32⟩
  | 16 => ⟨S4096x4096, .f32⟩
  | 17 => ⟨S_, .f32⟩
  | 18 => ⟨S4096, .f32⟩
  | 19 => ⟨S_, .f32⟩
  | 20 => ⟨S4096, .f32⟩
  | 21 => ⟨S4096, .f32⟩
  | 22 => ⟨S4096x1, .f32⟩
  | 23 => ⟨S4096x4096, .f32⟩
  | 24 => ⟨S4096x4096, .f32⟩
  | 25 => ⟨S4096x4096, .f32⟩
  | 26 => ⟨S_, .f32⟩
  | 27 => ⟨S4096, .f32⟩
  | 28 => ⟨S4096x1, .f32⟩
  | 29 => ⟨S4096x4096, .f32⟩
  | 30 => ⟨S4096x4096, .f32⟩
  | 31 => ⟨S4096x64, .f32⟩
  | 32 => ⟨S_, .f32⟩
  | 33 => ⟨S4096x64, .f32⟩
  | 34 => ⟨S4096x64, .f32⟩
  | 35 => ⟨S_, .f32⟩
  | 36 => ⟨S4096x64, .f32⟩
  | 37 => ⟨S4096x64, .f32⟩
  | 38 => ⟨S4096x64, .f32⟩
  | 39 => ⟨S_, .f32⟩
  | 40 => ⟨S4096x64, .f32⟩
  | 41 => ⟨S4096x64, .i1⟩
  | 42 => ⟨S_, .f32⟩
  | 43 => ⟨S4096x64, .f32⟩
  | 44 => ⟨S4096x64, .i1⟩
  | 45 => ⟨S_, .f32⟩
  | 46 => ⟨S_, .f32⟩
  | 47 => ⟨S4096x64, .f32⟩
  | 48 => ⟨S4096x64, .f32⟩
  | 49 => ⟨S4096x64, .f32⟩
  | 50 => ⟨S_, .f32⟩
  | 51 => ⟨S4096x64, .f32⟩
  | 52 => ⟨S4096x64, .f32⟩
  | 53 => ⟨S4096x64, .f32⟩
  | 54 => ⟨S1x256x64, .f32⟩
  | 55 => ⟨S256x64, .f32⟩
  | 56 => ⟨S1x64, .f32⟩
  | 57 => ⟨S64, .f32⟩
  | 58 => ⟨S1x64, .f32⟩
  | 59 => ⟨S64, .f32⟩
  | 60 => ⟨S4096x64, .f32⟩
  | 61 => ⟨S4096, .f32⟩
  | 62 => ⟨S4096, .f32⟩
  | 63 => ⟨S4096x1, .f32⟩
  | 64 => ⟨S1x4096, .f32⟩
  | 65 => ⟨S4096x4096, .f32⟩
  | 66 => ⟨S4096x4096, .f32⟩
  | 67 => ⟨S4096x4096, .f32⟩
  | 68 => ⟨S_, .f32⟩
  | 69 => ⟨S_, .f32⟩
  | 70 => ⟨S4096x4096, .f32⟩
  | 71 => ⟨S4096x4096, .i1⟩
  | 72 => ⟨S_, .f32⟩
  | 73 => ⟨S4096x4096, .f32⟩
  | 74 => ⟨S4096x4096, .f32⟩
  | 75 => ⟨S4096x4096, .f32⟩
  | 76 => ⟨S_, .f32⟩
  | 77 => ⟨S4096x4096, .f32⟩
  | 78 => ⟨S4096x4096, .i1⟩
  | 79 => ⟨S_, .f32⟩
  | 80 => ⟨S_, .f32⟩
  | 81 => ⟨S4096x4096, .f32⟩
  | 82 => ⟨S4096x4096, .f32⟩
  | 83 => ⟨S_, .f32⟩
  | 84 => ⟨S4096, .f32⟩
  | 85 => ⟨S_, .f32⟩
  | 86 => ⟨S4096, .f32⟩
  | 87 => ⟨S4096, .f32⟩
  | 88 => ⟨S4096x1, .f32⟩
  | 89 => ⟨S4096x4096, .f32⟩
  | 90 => ⟨S4096x4096, .f32⟩
  | 91 => ⟨S4096x4096, .f32⟩
  | 92 => ⟨S_, .f32⟩
  | 93 => ⟨S4096, .f32⟩
  | 94 => ⟨S4096x1, .f32⟩
  | 95 => ⟨S4096x4096, .f32⟩
  | 96 => ⟨S4096x4096, .f32⟩
  | 97 => ⟨S4096x64, .f32⟩
  | 98 => ⟨S_, .f32⟩
  | 99 => ⟨S4096x4096, .f32⟩
  | 100 => ⟨S4096x4096, .i1⟩
  | 101 => ⟨S_, .f32⟩
  | 102 => ⟨S_, .f32⟩
  | 103 => ⟨S4096x4096, .f32⟩
  | 104 => ⟨S4096x4096, .f32⟩
  | 105 => ⟨S_, .f32⟩
  | 106 => ⟨S4096, .f32⟩
  | 107 => ⟨S_, .f32⟩
  | 108 => ⟨S4096, .f32⟩
  | 109 => ⟨S4096, .f32⟩
  | 110 => ⟨S4096x1, .f32⟩
  | 111 => ⟨S4096x4096, .f32⟩
  | 112 => ⟨S4096x4096, .f32⟩
  | 113 => ⟨S4096x4096, .f32⟩
  | 114 => ⟨S_, .f32⟩
  | 115 => ⟨S4096, .f32⟩
  | 116 => ⟨S4096x1, .f32⟩
  | 117 => ⟨S4096x4096, .f32⟩
  | 118 => ⟨S4096x4096, .f32⟩
  | 119 => ⟨S4096x64, .f32⟩
  | 120 => ⟨S_, .f32⟩
  | 121 => ⟨S4096x64, .f32⟩
  | 122 => ⟨S4096x64, .f32⟩
  | 123 => ⟨S_, .f32⟩
  | 124 => ⟨S4096x64, .f32⟩
  | 125 => ⟨S4096x64, .f32⟩
  | 126 => ⟨S4096x64, .f32⟩
  | 127 => ⟨S_, .f32⟩
  | _ => ⟨S4096x256, .f32⟩

abbrev hbmTy0_2 (i : Nat) : BufTy := match i % 128 with
  | 0 => ⟨S4096x64, .f32⟩
  | 1 => ⟨S4096x64, .i1⟩
  | 2 => ⟨S_, .f32⟩
  | 3 => ⟨S4096x64, .f32⟩
  | 4 => ⟨S4096x64, .i1⟩
  | 5 => ⟨S_, .f32⟩
  | 6 => ⟨S_, .f32⟩
  | 7 => ⟨S4096x64, .f32⟩
  | 8 => ⟨S4096x64, .f32⟩
  | 9 => ⟨S4096x64, .f32⟩
  | 10 => ⟨S_, .f32⟩
  | 11 => ⟨S4096x64, .f32⟩
  | 12 => ⟨S4096x64, .f32⟩
  | 13 => ⟨S4096x64, .f32⟩
  | 14 => ⟨S1x256x64, .f32⟩
  | 15 => ⟨S256x64, .f32⟩
  | 16 => ⟨S1x64, .f32⟩
  | 17 => ⟨S64, .f32⟩
  | 18 => ⟨S1x64, .f32⟩
  | 19 => ⟨S64, .f32⟩
  | 20 => ⟨S4096x64, .f32⟩
  | 21 => ⟨S4096, .f32⟩
  | 22 => ⟨S4096, .f32⟩
  | 23 => ⟨S4096x1, .f32⟩
  | 24 => ⟨S1x4096, .f32⟩
  | 25 => ⟨S4096x4096, .f32⟩
  | 26 => ⟨S4096x4096, .f32⟩
  | 27 => ⟨S4096x4096, .f32⟩
  | 28 => ⟨S_, .f32⟩
  | 29 => ⟨S_, .f32⟩
  | 30 => ⟨S4096x4096, .f32⟩
  | 31 => ⟨S4096x4096, .i1⟩
  | 32 => ⟨S_, .f32⟩
  | 33 => ⟨S4096x4096, .f32⟩
  | 34 => ⟨S4096x4096, .f32⟩
  | 35 => ⟨S4096x4096, .f32⟩
  | 36 => ⟨S_, .f32⟩
  | 37 => ⟨S4096x4096, .f32⟩
  | 38 => ⟨S4096x4096, .i1⟩
  | 39 => ⟨S_, .f32⟩
  | 40 => ⟨S_, .f32⟩
  | 41 => ⟨S4096x4096, .f32⟩
  | 42 => ⟨S4096x4096, .f32⟩
  | 43 => ⟨S_, .f32⟩
  | 44 => ⟨S4096, .f32⟩
  | 45 => ⟨S_, .f32⟩
  | 46 => ⟨S4096, .f32⟩
  | 47 => ⟨S4096, .f32⟩
  | 48 => ⟨S4096x1, .f32⟩
  | 49 => ⟨S4096x4096, .f32⟩
  | 50 => ⟨S4096x4096, .f32⟩
  | 51 => ⟨S4096x4096, .f32⟩
  | 52 => ⟨S_, .f32⟩
  | 53 => ⟨S4096, .f32⟩
  | 54 => ⟨S4096x1, .f32⟩
  | 55 => ⟨S4096x4096, .f32⟩
  | 56 => ⟨S4096x4096, .f32⟩
  | 57 => ⟨S4096x64, .f32⟩
  | 58 => ⟨S_, .f32⟩
  | 59 => ⟨S4096x4096, .f32⟩
  | 60 => ⟨S4096x4096, .i1⟩
  | 61 => ⟨S_, .f32⟩
  | 62 => ⟨S_, .f32⟩
  | 63 => ⟨S4096x4096, .f32⟩
  | 64 => ⟨S4096x4096, .f32⟩
  | 65 => ⟨S_, .f32⟩
  | 66 => ⟨S4096, .f32⟩
  | 67 => ⟨S_, .f32⟩
  | 68 => ⟨S4096, .f32⟩
  | 69 => ⟨S4096, .f32⟩
  | 70 => ⟨S4096x1, .f32⟩
  | 71 => ⟨S4096x4096, .f32⟩
  | 72 => ⟨S4096x4096, .f32⟩
  | 73 => ⟨S4096x4096, .f32⟩
  | 74 => ⟨S_, .f32⟩
  | 75 => ⟨S4096, .f32⟩
  | 76 => ⟨S4096x1, .f32⟩
  | 77 => ⟨S4096x4096, .f32⟩
  | 78 => ⟨S4096x4096, .f32⟩
  | 79 => ⟨S4096x64, .f32⟩
  | 80 => ⟨S_, .f32⟩
  | 81 => ⟨S4096x64, .f32⟩
  | 82 => ⟨S4096x64, .f32⟩
  | 83 => ⟨S_, .f32⟩
  | 84 => ⟨S4096x64, .f32⟩
  | 85 => ⟨S4096x64, .f32⟩
  | 86 => ⟨S4096x64, .f32⟩
  | 87 => ⟨S_, .f32⟩
  | 88 => ⟨S4096x64, .f32⟩
  | 89 => ⟨S4096x64, .i1⟩
  | 90 => ⟨S_, .f32⟩
  | 91 => ⟨S4096x64, .f32⟩
  | 92 => ⟨S4096x64, .i1⟩
  | 93 => ⟨S_, .f32⟩
  | 94 => ⟨S_, .f32⟩
  | 95 => ⟨S4096x64, .f32⟩
  | 96 => ⟨S4096x64, .f32⟩
  | 97 => ⟨S4096x64, .f32⟩
  | 98 => ⟨S_, .f32⟩
  | 99 => ⟨S4096x64, .f32⟩
  | 100 => ⟨S4096x64, .f32⟩
  | 101 => ⟨S4096x64, .f32⟩
  | 102 => ⟨S4096x256, .f32⟩
  | _ => ⟨S4096x256, .f32⟩

abbrev hbmTy (i : Nat) : BufTy := match i / 128 with
  | 0 => hbmTy0_0 i
  | 1 => hbmTy0_1 i
  | 2 => hbmTy0_2 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_call2_v0 : Ref sig .tc := ⟨.hbm, 54, rfl⟩
abbrev main_call2_v1 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_cst_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_cst_11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call3_cst : Ref sig .tc := ⟨.hbm, 79, rfl⟩
abbrev main_call3_v0 : Ref sig .tc := ⟨.hbm, 80, rfl⟩
abbrev main_call3_v1 : Ref sig .tc := ⟨.hbm, 81, rfl⟩
abbrev main_call3_cst_0 : Ref sig .tc := ⟨.hbm, 82, rfl⟩
abbrev main_call3_v2 : Ref sig .tc := ⟨.hbm, 83, rfl⟩
abbrev main_call3_v3 : Ref sig .tc := ⟨.hbm, 84, rfl⟩
abbrev main_call3_cst_1 : Ref sig .tc := ⟨.hbm, 85, rfl⟩
abbrev main_call3_call0_v0 : Ref sig .tc := ⟨.hbm, 86, rfl⟩
abbrev main_call3_call0_v1 : Ref sig .tc := ⟨.hbm, 87, rfl⟩
abbrev main_call3_v4 : Ref sig .tc := ⟨.hbm, 88, rfl⟩
abbrev main_call3_v5 : Ref sig .tc := ⟨.hbm, 89, rfl⟩
abbrev main_call3_cst_2 : Ref sig .tc := ⟨.hbm, 90, rfl⟩
abbrev main_call3_v6 : Ref sig .tc := ⟨.hbm, 91, rfl⟩
abbrev main_call3_v7 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst_12 : Ref sig .tc := ⟨.hbm, 108, rfl⟩
abbrev main_call4_cst : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_v65 : Ref sig .tc := ⟨.hbm, 115, rfl⟩
abbrev main_cst_13 : Ref sig .tc := ⟨.hbm, 116, rfl⟩
abbrev main_v66 : Ref sig .tc := ⟨.hbm, 117, rfl⟩
abbrev main_v67 : Ref sig .tc := ⟨.hbm, 118, rfl⟩
abbrev main_cst_14 : Ref sig .tc := ⟨.hbm, 119, rfl⟩
abbrev main_call5_v0 : Ref sig .tc := ⟨.hbm, 120, rfl⟩
abbrev main_call5_v1 : Ref sig .tc := ⟨.hbm, 121, rfl⟩
abbrev main_v68 : Ref sig .tc := ⟨.hbm, 122, rfl⟩
abbrev main_cst_15 : Ref sig .tc := ⟨.hbm, 123, rfl⟩
abbrev main_v69 : Ref sig .tc := ⟨.hbm, 124, rfl⟩
abbrev main_cst_16 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_cst_17 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_cst_18 : Ref sig .tc := ⟨.hbm, 138, rfl⟩
abbrev main_v81 : Ref sig .tc := ⟨.hbm, 139, rfl⟩
abbrev main_v82 : Ref sig .tc := ⟨.hbm, 140, rfl⟩
abbrev main_cst_19 : Ref sig .tc := ⟨.hbm, 141, rfl⟩
abbrev main_call6_v0 : Ref sig .tc := ⟨.hbm, 142, rfl⟩
abbrev main_call6_v1 : Ref sig .tc := ⟨.hbm, 143, rfl⟩
abbrev main_v83 : Ref sig .tc := ⟨.hbm, 144, rfl⟩
abbrev main_cst_20 : Ref sig .tc := ⟨.hbm, 145, rfl⟩
abbrev main_v84 : Ref sig .tc := ⟨.hbm, 146, rfl⟩
abbrev main_cst_21 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_cst_22 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_cst_23 : Ref sig .tc := ⟨.hbm, 160, rfl⟩
abbrev main_v96 : Ref sig .tc := ⟨.hbm, 161, rfl⟩
abbrev main_v97 : Ref sig .tc := ⟨.hbm, 162, rfl⟩
abbrev main_cst_24 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_call7_cst : Ref sig .tc := ⟨.hbm, 167, rfl⟩
abbrev main_call7_v0 : Ref sig .tc := ⟨.hbm, 168, rfl⟩
abbrev main_call7_v1 : Ref sig .tc := ⟨.hbm, 169, rfl⟩
abbrev main_call7_cst_0 : Ref sig .tc := ⟨.hbm, 170, rfl⟩
abbrev main_call7_v2 : Ref sig .tc := ⟨.hbm, 171, rfl⟩
abbrev main_call7_v3 : Ref sig .tc := ⟨.hbm, 172, rfl⟩
abbrev main_call7_cst_1 : Ref sig .tc := ⟨.hbm, 173, rfl⟩
abbrev main_call7_call0_v0 : Ref sig .tc := ⟨.hbm, 174, rfl⟩
abbrev main_call7_call0_v1 : Ref sig .tc := ⟨.hbm, 175, rfl⟩
abbrev main_call7_v4 : Ref sig .tc := ⟨.hbm, 176, rfl⟩
abbrev main_call7_v5 : Ref sig .tc := ⟨.hbm, 177, rfl⟩
abbrev main_call7_cst_2 : Ref sig .tc := ⟨.hbm, 178, rfl⟩
abbrev main_call7_v6 : Ref sig .tc := ⟨.hbm, 179, rfl⟩
abbrev main_call7_v7 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_cst_25 : Ref sig .tc := ⟨.hbm, 196, rfl⟩
abbrev main_call8_cst : Ref sig .tc := ⟨.hbm, 197, rfl⟩
abbrev main_call8_v0 : Ref sig .tc := ⟨.hbm, 198, rfl⟩
abbrev main_call8_v1 : Ref sig .tc := ⟨.hbm, 199, rfl⟩
abbrev main_call8_v2 : Ref sig .tc := ⟨.hbm, 200, rfl⟩
abbrev main_call8_v3 : Ref sig .tc := ⟨.hbm, 201, rfl⟩
abbrev main_call8_v4 : Ref sig .tc := ⟨.hbm, 202, rfl⟩
abbrev main_v116 : Ref sig .tc := ⟨.hbm, 203, rfl⟩
abbrev main_cst_26 : Ref sig .tc := ⟨.hbm, 204, rfl⟩
abbrev main_v117 : Ref sig .tc := ⟨.hbm, 205, rfl⟩
abbrev main_v118 : Ref sig .tc := ⟨.hbm, 206, rfl⟩
abbrev main_cst_27 : Ref sig .tc := ⟨.hbm, 207, rfl⟩
abbrev main_call9_v0 : Ref sig .tc := ⟨.hbm, 208, rfl⟩
abbrev main_call9_v1 : Ref sig .tc := ⟨.hbm, 209, rfl⟩
abbrev main_v119 : Ref sig .tc := ⟨.hbm, 210, rfl⟩
abbrev main_cst_28 : Ref sig .tc := ⟨.hbm, 211, rfl⟩
abbrev main_v120 : Ref sig .tc := ⟨.hbm, 212, rfl⟩
abbrev main_cst_29 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_cst_30 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_cst_31 : Ref sig .tc := ⟨.hbm, 226, rfl⟩
abbrev main_v132 : Ref sig .tc := ⟨.hbm, 227, rfl⟩
abbrev main_v133 : Ref sig .tc := ⟨.hbm, 228, rfl⟩
abbrev main_cst_32 : Ref sig .tc := ⟨.hbm, 229, rfl⟩
abbrev main_call10_v0 : Ref sig .tc := ⟨.hbm, 230, rfl⟩
abbrev main_call10_v1 : Ref sig .tc := ⟨.hbm, 231, rfl⟩
abbrev main_v134 : Ref sig .tc := ⟨.hbm, 232, rfl⟩
abbrev main_cst_33 : Ref sig .tc := ⟨.hbm, 233, rfl⟩
abbrev main_v135 : Ref sig .tc := ⟨.hbm, 234, rfl⟩
abbrev main_cst_34 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_cst_35 : Ref sig .tc := ⟨.hbm, 242, rfl⟩
abbrev main_v142 : Ref sig .tc := ⟨.hbm, 243, rfl⟩
abbrev main_v143 : Ref sig .tc := ⟨.hbm, 244, rfl⟩
abbrev main_v144 : Ref sig .tc := ⟨.hbm, 245, rfl⟩
abbrev main_v145 : Ref sig .tc := ⟨.hbm, 246, rfl⟩
abbrev main_v146 : Ref sig .tc := ⟨.hbm, 247, rfl⟩
abbrev main_cst_36 : Ref sig .tc := ⟨.hbm, 248, rfl⟩
abbrev main_v147 : Ref sig .tc := ⟨.hbm, 249, rfl⟩
abbrev main_v148 : Ref sig .tc := ⟨.hbm, 250, rfl⟩
abbrev main_cst_37 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩
abbrev main_call11_cst : Ref sig .tc := ⟨.hbm, 255, rfl⟩
abbrev main_call11_v0 : Ref sig .tc := ⟨.hbm, 256, rfl⟩
abbrev main_call11_v1 : Ref sig .tc := ⟨.hbm, 257, rfl⟩
abbrev main_call11_cst_0 : Ref sig .tc := ⟨.hbm, 258, rfl⟩
abbrev main_call11_v2 : Ref sig .tc := ⟨.hbm, 259, rfl⟩
abbrev main_call11_v3 : Ref sig .tc := ⟨.hbm, 260, rfl⟩
abbrev main_call11_cst_1 : Ref sig .tc := ⟨.hbm, 261, rfl⟩
abbrev main_call11_call0_v0 : Ref sig .tc := ⟨.hbm, 262, rfl⟩
abbrev main_call11_call0_v1 : Ref sig .tc := ⟨.hbm, 263, rfl⟩
abbrev main_call11_v4 : Ref sig .tc := ⟨.hbm, 264, rfl⟩
abbrev main_call11_v5 : Ref sig .tc := ⟨.hbm, 265, rfl⟩
abbrev main_call11_cst_2 : Ref sig .tc := ⟨.hbm, 266, rfl⟩
abbrev main_call11_v6 : Ref sig .tc := ⟨.hbm, 267, rfl⟩
abbrev main_call11_v7 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩
abbrev main_v155 : Ref sig .tc := ⟨.hbm, 272, rfl⟩
abbrev main_v156 : Ref sig .tc := ⟨.hbm, 273, rfl⟩
abbrev main_v157 : Ref sig .tc := ⟨.hbm, 274, rfl⟩
abbrev main_v158 : Ref sig .tc := ⟨.hbm, 275, rfl⟩
abbrev main_v159 : Ref sig .tc := ⟨.hbm, 276, rfl⟩
abbrev main_v160 : Ref sig .tc := ⟨.hbm, 277, rfl⟩
abbrev main_v161 : Ref sig .tc := ⟨.hbm, 278, rfl⟩
abbrev main_v162 : Ref sig .tc := ⟨.hbm, 279, rfl⟩
abbrev main_v163 : Ref sig .tc := ⟨.hbm, 280, rfl⟩
abbrev main_v164 : Ref sig .tc := ⟨.hbm, 281, rfl⟩
abbrev main_v165 : Ref sig .tc := ⟨.hbm, 282, rfl⟩
abbrev main_v166 : Ref sig .tc := ⟨.hbm, 283, rfl⟩
abbrev main_cst_38 : Ref sig .tc := ⟨.hbm, 284, rfl⟩
abbrev main_call12_cst : Ref sig .tc := ⟨.hbm, 285, rfl⟩
abbrev main_call12_v0 : Ref sig .tc := ⟨.hbm, 286, rfl⟩
abbrev main_call12_v1 : Ref sig .tc := ⟨.hbm, 287, rfl⟩
abbrev main_call12_v2 : Ref sig .tc := ⟨.hbm, 288, rfl⟩
abbrev main_call12_v3 : Ref sig .tc := ⟨.hbm, 289, rfl⟩
abbrev main_call12_v4 : Ref sig .tc := ⟨.hbm, 290, rfl⟩
abbrev main_v167 : Ref sig .tc := ⟨.hbm, 291, rfl⟩
abbrev main_cst_39 : Ref sig .tc := ⟨.hbm, 292, rfl⟩
abbrev main_v168 : Ref sig .tc := ⟨.hbm, 293, rfl⟩
abbrev main_v169 : Ref sig .tc := ⟨.hbm, 294, rfl⟩
abbrev main_cst_40 : Ref sig .tc := ⟨.hbm, 295, rfl⟩
abbrev main_call13_v0 : Ref sig .tc := ⟨.hbm, 296, rfl⟩
abbrev main_call13_v1 : Ref sig .tc := ⟨.hbm, 297, rfl⟩
abbrev main_v170 : Ref sig .tc := ⟨.hbm, 298, rfl⟩
abbrev main_cst_41 : Ref sig .tc := ⟨.hbm, 299, rfl⟩
abbrev main_v171 : Ref sig .tc := ⟨.hbm, 300, rfl⟩
abbrev main_cst_42 : Ref sig .tc := ⟨.hbm, 301, rfl⟩
abbrev main_v172 : Ref sig .tc := ⟨.hbm, 302, rfl⟩
abbrev main_v173 : Ref sig .tc := ⟨.hbm, 303, rfl⟩
abbrev main_v174 : Ref sig .tc := ⟨.hbm, 304, rfl⟩
abbrev main_v175 : Ref sig .tc := ⟨.hbm, 305, rfl⟩
abbrev main_v176 : Ref sig .tc := ⟨.hbm, 306, rfl⟩
abbrev main_v177 : Ref sig .tc := ⟨.hbm, 307, rfl⟩
abbrev main_cst_43 : Ref sig .tc := ⟨.hbm, 308, rfl⟩
abbrev main_v178 : Ref sig .tc := ⟨.hbm, 309, rfl⟩
abbrev main_v179 : Ref sig .tc := ⟨.hbm, 310, rfl⟩
abbrev main_v180 : Ref sig .tc := ⟨.hbm, 311, rfl⟩
abbrev main_v181 : Ref sig .tc := ⟨.hbm, 312, rfl⟩
abbrev main_v182 : Ref sig .tc := ⟨.hbm, 313, rfl⟩
abbrev main_cst_44 : Ref sig .tc := ⟨.hbm, 314, rfl⟩
abbrev main_v183 : Ref sig .tc := ⟨.hbm, 315, rfl⟩
abbrev main_v184 : Ref sig .tc := ⟨.hbm, 316, rfl⟩
abbrev main_cst_45 : Ref sig .tc := ⟨.hbm, 317, rfl⟩
abbrev main_call14_v0 : Ref sig .tc := ⟨.hbm, 318, rfl⟩
abbrev main_call14_v1 : Ref sig .tc := ⟨.hbm, 319, rfl⟩
abbrev main_v185 : Ref sig .tc := ⟨.hbm, 320, rfl⟩
abbrev main_cst_46 : Ref sig .tc := ⟨.hbm, 321, rfl⟩
abbrev main_v186 : Ref sig .tc := ⟨.hbm, 322, rfl⟩
abbrev main_cst_47 : Ref sig .tc := ⟨.hbm, 323, rfl⟩
abbrev main_v187 : Ref sig .tc := ⟨.hbm, 324, rfl⟩
abbrev main_v188 : Ref sig .tc := ⟨.hbm, 325, rfl⟩
abbrev main_v189 : Ref sig .tc := ⟨.hbm, 326, rfl⟩
abbrev main_v190 : Ref sig .tc := ⟨.hbm, 327, rfl⟩
abbrev main_v191 : Ref sig .tc := ⟨.hbm, 328, rfl⟩
abbrev main_v192 : Ref sig .tc := ⟨.hbm, 329, rfl⟩
abbrev main_cst_48 : Ref sig .tc := ⟨.hbm, 330, rfl⟩
abbrev main_v193 : Ref sig .tc := ⟨.hbm, 331, rfl⟩
abbrev main_v194 : Ref sig .tc := ⟨.hbm, 332, rfl⟩
abbrev main_v195 : Ref sig .tc := ⟨.hbm, 333, rfl⟩
abbrev main_v196 : Ref sig .tc := ⟨.hbm, 334, rfl⟩
abbrev main_v197 : Ref sig .tc := ⟨.hbm, 335, rfl⟩
abbrev main_cst_49 : Ref sig .tc := ⟨.hbm, 336, rfl⟩
abbrev main_v198 : Ref sig .tc := ⟨.hbm, 337, rfl⟩
abbrev main_v199 : Ref sig .tc := ⟨.hbm, 338, rfl⟩
abbrev main_cst_50 : Ref sig .tc := ⟨.hbm, 339, rfl⟩
abbrev main_v200 : Ref sig .tc := ⟨.hbm, 340, rfl⟩
abbrev main_v201 : Ref sig .tc := ⟨.hbm, 341, rfl⟩
abbrev main_v202 : Ref sig .tc := ⟨.hbm, 342, rfl⟩
abbrev main_call15_cst : Ref sig .tc := ⟨.hbm, 343, rfl⟩
abbrev main_call15_v0 : Ref sig .tc := ⟨.hbm, 344, rfl⟩
abbrev main_call15_v1 : Ref sig .tc := ⟨.hbm, 345, rfl⟩
abbrev main_call15_cst_0 : Ref sig .tc := ⟨.hbm, 346, rfl⟩
abbrev main_call15_v2 : Ref sig .tc := ⟨.hbm, 347, rfl⟩
abbrev main_call15_v3 : Ref sig .tc := ⟨.hbm, 348, rfl⟩
abbrev main_call15_cst_1 : Ref sig .tc := ⟨.hbm, 349, rfl⟩
abbrev main_call15_call0_v0 : Ref sig .tc := ⟨.hbm, 350, rfl⟩
abbrev main_call15_call0_v1 : Ref sig .tc := ⟨.hbm, 351, rfl⟩
abbrev main_call15_v4 : Ref sig .tc := ⟨.hbm, 352, rfl⟩
abbrev main_call15_v5 : Ref sig .tc := ⟨.hbm, 353, rfl⟩
abbrev main_call15_cst_2 : Ref sig .tc := ⟨.hbm, 354, rfl⟩
abbrev main_call15_v6 : Ref sig .tc := ⟨.hbm, 355, rfl⟩
abbrev main_call15_v7 : Ref sig .tc := ⟨.hbm, 356, rfl⟩
abbrev main_v203 : Ref sig .tc := ⟨.hbm, 357, rfl⟩
abbrev main_v204 : Ref sig .tc := ⟨.hbm, 358, rfl⟩

abbrev nD : Nat := 1
abbrev τ : Topo := Topo.v7x

variable {F : FTy → Type} [FloatOps F]
-- ==== Proof.Math.lean ====
module

public import Idealize.ShloMosaic.PureOps.Ideal.Laws

@[expose] public section

noncomputable section

/-! One entry of the layer, as the kernel and as the reference compute it, and their equality: extended reals and
finite index types only, no arrays. -/

namespace Cert.Math

open Idealize.ShloMosaic

variable {ι : Type} [Fintype ι]

/-- The kernel's weight of a neighbour: the larger of two products of exponentials, times the mask. -/
def weight (u₁ u₂ v₁ v₂ a : EReal) : EReal := max (u₁ * v₁) (u₂ * v₂) * a

/-- The kernel's mixed attention at one entry, from the exponentials, the mask, the column of ones and the features. -/
def mixK (c₁ c₂ u₁ u₂ : EReal) (v₁ v₂ a o y : ι → EReal) (d : EReal) : EReal :=
  Ideal.div c₁ (∑ m, weight u₁ u₂ (v₁ m) (v₂ m) (a m) * o m) * (∑ m, weight u₁ u₂ (v₁ m) (v₂ m) (a m) * y m) + c₂ * d

/-- The kernel's exponential linear unit. -/
def unitK (z : EReal) : EReal := if 0 < z then z else Ideal.exp z - 1

/-- The leaky rectifier. -/
def leaky (α t : EReal) : EReal := if 0 ≤ t then t else α * t

/-- A score where the mask is positive, minus infinity elsewhere. -/
def masked (g s : EReal) : EReal := if 0 < g then s else ⊥

/-- The reference's exponential of a masked score less the maximum of its row. -/
def expo (w : ι → EReal) (m : ι) : EReal := Ideal.exp (w m - max ⊥ (Finset.univ.fold max ⊥ w))

/-- The reference's normalised row applied to the features. -/
def attend (p y : ι → EReal) : EReal := ∑ m, Ideal.div (p m) (∑ m', p m') * y m

/-- The reference's mixed attention at one entry. -/
def mixR (c₁ c₂ : EReal) (a e s y : ι → EReal) : EReal :=
  c₁ * attend (expo fun m => masked (a m) (s m)) y + c₂ * attend (expo fun m => masked (e m) (s m)) y

/-- The reference's exponential linear unit. -/
def unitR (z : EReal) : EReal := if 0 < z then z else 1 * (Ideal.exp (if 0 < z then 0 else z) - 1)

/-- A finite sum of reals, read as an extended real. -/
theorem coe_sum (f : ι → ℝ) : ((∑ m, f m : ℝ) : EReal) = ∑ m, (f m : EReal) := by
  classical
  induction (Finset.univ : Finset ι) using Finset.induction_on with
  | empty => simp
  | insert i s hi ih => rw [Finset.sum_insert hi, Finset.sum_insert hi, EReal.coe_add, ih]

/-- A sum of finite extended reals is finite. -/
theorem sum_real (f : ι → EReal) (h : ∀ m, ∃ r : ℝ, f m = r) : ∃ r : ℝ, ∑ m, f m = r := by
  choose g hg using h
  exact ⟨∑ m, g m, by rw [coe_sum]; exact Finset.sum_congr rfl fun m _ => hg m⟩

/-- A sum of products of finite extended reals is finite. -/
theorem dot_real (f g : ι → EReal) (hf : ∀ m, ∃ r : ℝ, f m = r) (hg : ∀ m, ∃ r : ℝ, g m = r) :
    ∃ r : ℝ, ∑ m, f m * g m = r :=
  sum_real _ fun m => by
    obtain ⟨a, ha⟩ := hf m
    obtain ⟨b, hb⟩ := hg m
    exact ⟨a * b, by rw [ha, hb, EReal.coe_mul]⟩

/-- Division of reals by a positive real. -/
theorem div_real (x y : ℝ) (hy : 0 < y) : Ideal.div (x : EReal) (y : EReal) = ((x / y : ℝ) : EReal) := by
  have h : (y : EReal) ≠ 0 := by exact_mod_cast hy.ne'
  rw [Ideal.div, if_neg h, ← EReal.coe_inv, ← EReal.coe_mul, div_eq_mul_inv]

/-- The maximum of a row with a real score somewhere, every score real or minus infinity, is real. -/
theorem rowMax_real (P : ι → Prop) [DecidablePred P] (s : ι → ℝ) (hP : ∃ m, P m) :
    ∃ μ : ℝ, max ⊥ (Finset.univ.fold max ⊥ fun m => if P m then ((s m : ℝ) : EReal) else ⊥) = μ := by
  obtain ⟨m₀, h₀⟩ := hP
  set M := max (⊥ : EReal) (Finset.univ.fold max ⊥ fun m => if P m then ((s m : ℝ) : EReal) else ⊥) with hM
  have hb : M ≠ ⊥ := by
    have : ((s m₀ : ℝ) : EReal) ≤ M :=
      le_trans (Finset.le_fold_max _ |>.2 (Or.inr ⟨m₀, Finset.mem_univ _, by simp [h₀]⟩)) (le_max_right _ _)
    intro h
    rw [h] at this
    exact absurd (le_bot_iff.1 this) (EReal.coe_ne_bot _)
  have ht : M ≠ ⊤ := by
    have : M < ⊤ := by
      refine max_lt bot_lt_top (Finset.fold_max_lt _ |>.2 ⟨bot_lt_top, fun m _ => ?_⟩)
      split
      · exact EReal.coe_lt_top _
      · exact bot_lt_top
    exact this.ne
  exact ⟨M.toReal, (EReal.coe_toReal ht hb).symm⟩

/-- The reference's normalised row applied to real features, as a quotient of real sums: the row's maximum has cancelled. -/
theorem attend_real (g : ι → EReal) (P : ι → Prop) [DecidablePred P] (hg : ∀ m, 0 < g m ↔ P m) (s y : ι → ℝ)
    (hP : ∃ m, P m) :
    attend (expo fun m => masked (g m) (s m : EReal)) (fun m => (y m : EReal))
      = (((∑ m, (if P m then Real.exp (s m) else 0) * y m) / ∑ m, (if P m then Real.exp (s m) else 0) : ℝ) : EReal) := by
  obtain ⟨μ, hμ⟩ := rowMax_real P s hP
  have hmask : (fun m => masked (g m) (s m : EReal)) = fun m => if P m then ((s m : ℝ) : EReal) else ⊥ := by
    funext m
    simp only [masked, hg]
  have hexpo : (expo fun m => masked (g m) (s m : EReal))
      = fun m => (((if P m then Real.exp (s m) else 0) / Real.exp μ : ℝ) : EReal) := by
    funext m
    rw [hmask, expo, hμ]
    split_ifs with h
    · rw [← EReal.coe_sub, Ideal.exp_coe, Real.exp_sub]
    · rw [EReal.bot_sub, Ideal.exp_bot]; simp
  have hS : (0 : ℝ) < ∑ m, (if P m then Real.exp (s m) else 0) := by
    obtain ⟨m₀, h₀⟩ := hP
    refine Finset.sum_pos' (fun m _ => ?_) ⟨m₀, Finset.mem_univ _, by simp [h₀, Real.exp_pos]⟩
    split_ifs
    · exact (Real.exp_pos _).le
    · exact le_rfl
  have hE : 0 < Real.exp μ := Real.exp_pos μ
  simp only [hexpo, attend]
  rw [← coe_sum, ← Finset.sum_div]
  simp only [div_real _ _ (div_pos hS hE), ← EReal.coe_mul]
  rw [← coe_sum]
  refine congrArg (fun r : ℝ => (r : EReal)) ((Finset.sum_congr rfl fun m _ => ?_).trans (Finset.sum_div _ _ _).symm)
  field_simp

/-- The larger of the two products of exponentials is the exponential of the leaky rectifier of the sum. -/
theorem max_exp (α p q : ℝ) (h0 : 0 < α) (h1 : α < 1) :
    max (Real.exp p * Real.exp q) (Real.exp (α * p) * Real.exp (α * q))
      = Real.exp (if 0 ≤ p + q then p + q else α * (p + q)) := by
  rw [← Real.exp_add, ← Real.exp_add, ← mul_add]
  split_ifs with h
  · exact max_eq_left (Real.exp_le_exp.2 (by nlinarith))
  · exact max_eq_right (Real.exp_le_exp.2 (by nlinarith))

theorem coe_max (x y : ℝ) : max (x : EReal) (y : EReal) = ((max x y : ℝ) : EReal) :=
  (EReal.coe_strictMono.monotone.map_max).symm

/-- The leaky rectifier of a real. -/
theorem leaky_coe (α t : ℝ) : leaky (α : EReal) (t : EReal) = ((if 0 ≤ t then t else α * t : ℝ) : EReal) := by
  unfold leaky
  by_cases h : 0 ≤ t
  · rw [if_pos h, if_pos (by exact_mod_cast h)]
  · rw [if_neg h, if_neg (by exact_mod_cast h), EReal.coe_mul]

/-- The two exponential linear units agree. -/
theorem unit_eq (z : EReal) : unitK z = unitR z := by
  unfold unitK unitR
  split_ifs
  · rfl
  · rw [one_mul]

/-- The kernel's mixed attention at one entry is the reference's: `α` between zero and one, real scores and features,
    a mask of zeros and ones with a one in it, a second mask that is positive at the entry's own row only. -/
theorem mix_eq [DecidableEq ι] (c₁ c₂ α f₁ : ℝ) (h0 : 0 < α) (h1 : α < 1) (f₂ y : ι → ℝ) (a e : ι → EReal) (n : ι)
    (ha : ∀ m, a m = 0 ∨ a m = 1) (hn : ∃ m, 0 < a m) (he : ∀ m, 0 < e m ↔ m = n) :
    mixK (c₁ : EReal) (c₂ : EReal) (Ideal.exp f₁) (Ideal.exp ((α : EReal) * (f₁ : EReal)))
        (fun m => Ideal.exp (f₂ m)) (fun m => Ideal.exp ((α : EReal) * (f₂ m : EReal))) a (fun _ => 1)
        (fun m => (y m : EReal)) (y n : EReal)
      = mixR (c₁ : EReal) (c₂ : EReal) a e (fun m => leaky (α : EReal) ((f₁ : EReal) + (f₂ m : EReal)))
        (fun m => (y m : EReal)) := by
  classical
  set s : ι → ℝ := fun m => if 0 ≤ f₁ + f₂ m then f₁ + f₂ m else α * (f₁ + f₂ m) with hs
  have hscore : ∀ m, leaky (α : EReal) ((f₁ : EReal) + (f₂ m : EReal)) = ((s m : ℝ) : EReal) := by
    intro m
    rw [← EReal.coe_add, leaky_coe]
  have hw : ∀ m, weight (Ideal.exp f₁) (Ideal.exp ((α : EReal) * (f₁ : EReal))) (Ideal.exp (f₂ m))
      (Ideal.exp ((α : EReal) * (f₂ m : EReal))) (a m) = ((if 0 < a m then Real.exp (s m) else 0 : ℝ) : EReal) := by
    intro m
    unfold weight
    rw [← EReal.coe_mul, ← EReal.coe_mul, Ideal.exp_coe, Ideal.exp_coe, Ideal.exp_coe, Ideal.exp_coe, ← EReal.coe_mul, ← EReal.coe_mul, coe_max,
      max_exp α f₁ (f₂ m) h0 h1]
    rcases ha m with h | h
    · rw [h, if_neg (lt_irrefl _), mul_zero, EReal.coe_zero]
    · rw [h, if_pos zero_lt_one, mul_one]
  have hS : (0 : ℝ) < ∑ m, (if 0 < a m then Real.exp (s m) else 0) := by
    obtain ⟨m₀, h₀⟩ := hn
    refine Finset.sum_pos' (fun m _ => ?_) ⟨m₀, Finset.mem_univ _, by simp [h₀, Real.exp_pos]⟩
    split_ifs
    · exact (Real.exp_pos _).le
    · exact le_rfl
  simp only [mixK, mixR, hscore]
  rw [attend_real a (fun m => 0 < a m) (fun _ => Iff.rfl) s y hn,
    attend_real e (fun m => m = n) he s y ⟨n, rfl⟩]
  simp only [hw, mul_one]
  simp only [← EReal.coe_mul, ← coe_sum, ite_mul, zero_mul, Finset.sum_ite_eq', Finset.mem_univ, if_true]
  rw [div_real _ _ hS, ← EReal.coe_mul, mul_div_assoc', mul_div_cancel_left₀ _ (Real.exp_pos _).ne',
    div_mul_eq_mul_div]

/-- The word of minus infinity. -/
theorem ofBits_neg_inf : Ideal.ofBits .f32 0xFF800000#32 = ⊥ := by
  simp [Ideal.ofBits, Ideal.ieee]

/-- The word of the slope is a real between zero and one. -/
theorem ofBits_slope : ∃ α : ℝ, Ideal.ofBits .f32 0x3E4CCCCD#32 = (α : EReal) ∧ 0 < α ∧ α < 1 := by
  refine ⟨_, by simp [Ideal.ofBits, Ideal.ieee]; rfl, ?_, ?_⟩ <;> norm_num

/-- The word of the larger mixing weight is real. -/
theorem ofBits_major : ∃ c : ℝ, Ideal.ofBits .f32 0x3F666666#32 = (c : EReal) := by
  refine ⟨_, by simp [Ideal.ofBits, Ideal.ieee]; rfl⟩

/-- The word of the smaller mixing weight is real. -/
theorem ofBits_minor : ∃ c : ℝ, Ideal.ofBits .f32 0x3DCCCCCD#32 = (c : EReal) := by
  refine ⟨_, by simp [Ideal.ofBits, Ideal.ieee]; rfl⟩

end Cert.Math
-- ==== Proof.Head.lean ====
module

public import proofs.«01_k».proof.Proof.Math
public import proofs.«01_k».proof.Proof.Gen.KernelIdeal.Skeleton
public import Idealize.ShloMosaic.Lib.Pointwise

@[expose] public section

set_option maxRecDepth 16384

noncomputable section

/-! One head of the kernel's body, as a function of the head's number, and its entries. -/

namespace Cert.Head

open Cert.KernelIdeal Cert.KernelIdeal.Gen Idealize.ShloMosaic Idealize.ShloMosaic.TcCoe Idealize.SL.Sem

/-- Every head's column of the row factors is one. -/
theorem slicesU (h : Fin 4) : S512x4.Slices ![0, h.val] S512x1 :=
  match h with
  | 0 => slices_S512x4_o0_0_S512x1
  | 1 => slices_S512x4_o0_1_S512x1
  | 2 => slices_S512x4_o0_2_S512x1
  | 3 => slices_S512x4_o0_3_S512x1

/-- One of the two products of a row factor and a column factor. -/
def prod (u : FVec Ideal S512x4 .bf16) (v : FVec Ideal S1x4096 .bf16) (h : Fin 4) : FVec Ideal S512x4096 .bf16 :=
  mulf (broadcastTo S512x4096 (extractStridedSlice S512x1 ![0, h.val] u (slicesU h)) broadcasts_S512x1_S512x4096)
    (broadcastTo S512x4096 v broadcasts_S1x4096_S512x4096)

/-- The weights applied to the features and to the column of ones. -/
def apply (w : FVec Ideal S512x4096 .bf16) (y : FVec Ideal S1x4096x65 .bf16) : FVec Ideal S512x65 .f32 :=
  matmul dot_S512x4096_S4096x65_S512x65_1_0_0_1_n_n none w (shapeCast S4096x65 y shapeCasts_S1x4096x65_S4096x65)
    (constant S512x65 .f32 0x00000000#32)

/-- The normalised sum and the row's own features, mixed. -/
def mix (t : FVec Ideal S512x65 .f32) (d : FVec Ideal S1x512x64 .bf16) : FVec Ideal S512x64 .f32 :=
  addf
    (mulf
      (broadcastTo S512x64
        (divf (broadcast S512x1 (Scalar.ofBits .f32 0x3F666666#32)) (extractStridedSlice S512x1 ![0, 64] t slices_S512x65_o0_64_S512x1))
        broadcasts_S512x1_S512x64)
      (extractStridedSlice S512x64 ![0, 0] t slices_S512x65_o0_0_S512x64))
    (mulf (broadcast S512x64 (Scalar.ofBits .f32 0x3DCCCCCD#32))
      (extf .f32 (shapeCast S512x64 d shapeCasts_S1x512x64_S512x64) bitsLt_bf16_f32))

/-- The exponential linear unit. -/
def unit (z : FVec Ideal S512x64 .f32) : FVec Ideal S512x64 .f32 :=
  select (cmpf .ogt z (broadcast S512x64 (Scalar.ofBits .f32 0x00000000#32))) z
    (subf (exp z) (broadcast S512x64 (Scalar.ofBits .f32 0x3F800000#32)))

/-- The head's block of the result. -/
def head (a : FVec Ideal S512x4096 .bf16) (u₁ u₂ : FVec Ideal S512x4 .bf16) (v₁ v₂ : FVec Ideal S1x4096 .bf16)
    (y : FVec Ideal S1x4096x65 .bf16) (d : FVec Ideal S1x512x64 .bf16) (h : Fin 4) : FVec Ideal S512x64 .f32 :=
  unit (mix (apply (mulf (maximumf (prod u₁ v₁ h) (prod u₂ v₂ h)) a) y) d)

variable (a : FVec Ideal S512x4096 .f32) (b : FVec Ideal S512x4096 .bf16) (u₁ u₂ : FVec Ideal S512x4 .bf16) (v₁ v₂ : FVec Ideal S1x4096 .bf16)
  (y : FVec Ideal S1x4096x65 .bf16) (d : FVec Ideal S1x512x64 .bf16)

/-- The body's first head is the head above. -/
theorem pay_0 : k0_pay19 (k0_pay18 a u₁ u₂ v₁ v₂ y d) (Scalar.ofBits .f32 0x00000000#32)
    = head (k0_pay17 a) u₁ u₂ v₁ v₂ y d 0 := rfl

/-- So is the second. -/
theorem pay_1 : k0_pay20 b u₁ u₂ v₁ v₂ y d = head b u₁ u₂ v₁ v₂ y d 1 := rfl

/-- So is the third. -/
theorem pay_2 : k0_pay21 b u₁ u₂ v₁ v₂ y d = head b u₁ u₂ v₁ v₂ y d 2 := rfl

/-- So is the fourth. -/
theorem pay_3 : k0_pay1 b u₂ v₁ (k0_pay22 u₁) v₂ y d = head b u₁ u₂ v₁ v₂ y d 3 := rfl

/-- A product of factors, entry by entry. -/
theorem prod_apply (h : Fin 4) (r : Fin 512) (m : Fin 4096) :
    prod u₁ v₁ h (ix2 r m) = u₁ (ix2 r h) * v₁ (ix2 0 m) := by
  pointwise [prod]

/-- The weighted sums, entry by entry. -/
theorem apply_apply (r : Fin 512) (k : Fin 65) :
    apply b y (ix2 r k) = ∑ m : Fin 4096, b (ix2 r m) * y (ix3 0 m k) := by
  pointwise [apply]

/-- The mixture, entry by entry. -/
theorem mix_apply (t : FVec Ideal S512x65 .f32) (r : Fin 512) (k : Fin 64) :
    mix t d (ix2 r k)
      = Ideal.div (Ideal.ofBits .f32 0x3F666666#32) (t (ix2 r 64)) * t (ix2 r ⟨k.val, by omega⟩)
        + Ideal.ofBits .f32 0x3DCCCCCD#32 * d (ix3 0 r k) := by
  pointwise [mix]

/-- The unit, entry by entry. -/
theorem unit_apply (z : FVec Ideal S512x64 .f32) (r : Fin 512) (k : Fin 64) :
    unit z (ix2 r k) = Math.unitK (z (ix2 r k)) := by
  pointwise [unit]
  rfl

/-- The head's entry: the kernel's mixed attention over the loaded factors and features, through its exponential linear unit. -/
theorem head_apply (h : Fin 4) (r : Fin 512) (k : Fin 64) :
    head b u₁ u₂ v₁ v₂ y d h (ix2 r k)
      = Math.unitK (Math.mixK (Ideal.ofBits .f32 0x3F666666#32) (Ideal.ofBits .f32 0x3DCCCCCD#32)
          (u₁ (ix2 r h)) (u₂ (ix2 r h)) (fun m => v₁ (ix2 0 m)) (fun m => v₂ (ix2 0 m)) (fun m => b (ix2 r m))
          (fun m => y (ix3 0 m 64)) (fun m => y (ix3 0 m ⟨k.val, by omega⟩)) (d (ix3 0 r k))) := by
  have hw : ∀ m, mulf (maximumf (prod u₁ v₁ h) (prod u₂ v₂ h)) b (ix2 r m)
      = Math.weight (u₁ (ix2 r h)) (u₂ (ix2 r h)) (v₁ (ix2 0 m)) (v₂ (ix2 0 m)) (b (ix2 r m)) := by
    intro m
    show max (prod u₁ v₁ h (ix2 r m)) (prod u₂ v₂ h (ix2 r m)) * b (ix2 r m) = _
    rw [prod_apply, prod_apply]
    rfl
  rw [head, unit_apply, mix_apply, apply_apply, apply_apply]
  simp only [hw]
  rfl

end Cert.Head
-- ==== Proof.Block.lean ====
module

public import proofs.«01_k».proof.Proof.Head
public import proofs.«01_k».proof.Proof.Gen.KernelIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

/-! What a grid point leaves: the scratch buffers the first point fills, and a point's block of the result. -/

namespace Cert.Block

open Cert.KernelIdeal Cert.KernelIdeal.Gen Idealize.ShloMosaic Idealize.ShloMosaic.TcCoe Idealize.SL.Sem

/-- The scratch of features: per head the projected features, and a column of ones after them. -/
def feats (x0 : FVec Ideal S4096x256 .bf16) (x1 : FVec Ideal S256x256 .bf16) : FVec Ideal S4x4096x65 .bf16 := fun i =>
  if hk : (i 2).val < 64 then
    k0_pay2 x0 x1 (ix2 (i 1) ⟨64 * (i 0).val + (i 2).val, by have h0 : (i 0).val < 4 := (i 0).isLt; omega⟩)
  else 1

/-- Every head's columns of the projected features are a slice. -/
theorem slicesF (h : Fin 4) : S4096x256.Slices ![0, 64 * h.val] S4096x64 :=
  match h with
  | 0 => slices_S4096x256_o0_0_S4096x64
  | 1 => slices_S4096x256_o0_64_S4096x64
  | 2 => slices_S4096x256_o0_128_S4096x64
  | 3 => slices_S4096x256_o0_192_S4096x64

/-- A head's columns of the projected features, as they are stored. -/
def cols (w : FVec Ideal S4096x256 .bf16) (h : Fin 4) : FVec Ideal S1x4096x64 .bf16 :=
  shapeCast S1x4096x64 (extractStridedSlice S4096x64 ![0, 64 * h.val] w (slicesF h)) shapeCasts_S4096x64_S1x4096x64

/-- Entry by entry. -/
theorem cols_apply (w : FVec Ideal S4096x256 .bf16) (h : Fin 4) (z : Fin 1) (n : Fin 4096) (k : Fin 64) :
    cols w h (ix3 z n k) = w (ix2 n ⟨64 * h.val + k.val, by omega⟩) := by
  pointwise [cols]

/-- The column of ones, as it is stored. -/
def ones : FVec Ideal S1x4096x1 .bf16 :=
  shapeCast S1x4096x1 (broadcast S4096x1 (Scalar.ofBits .bf16 0x3F80#16 : Ideal .bf16)) shapeCasts_S4096x1_S1x4096x1

/-- Every entry is one. -/
theorem ones_apply (x : S1x4096x1.Idx) : ones x = 1 := by
  pointwise [ones]

/-- In a head's feature columns the scratch holds what is stored there. -/
theorem feats_cols (x0 : FVec Ideal S4096x256 .bf16) (x1 : FVec Ideal S256x256 .bf16) (h : Fin 4) (x : S1x4096x64.Idx)
    (y : S4x4096x65.Idx) (h0 : (y 0).val = h.val) (h1 : (y 1).val = (x 1).val) (h2 : (y 2).val = (x 2).val) :
    cols (k0_pay2 x0 x1) h x = feats x0 x1 y := by
  have hk : (y 2).val < 64 := h2 ▸ (x 2).isLt
  rw [feats, dif_pos hk]
  obtain ⟨z, n, k, rfl⟩ : ∃ (z : Fin 1) (n : Fin 4096) (k : Fin 64), x = ix3 z n k := ⟨x 0, x 1, x 2, eq_ix3 x⟩
  rw [cols_apply]
  have e1 : n = y 1 := Fin.ext h1.symm
  subst e1
  refine congrArg (fun j : Fin 256 => k0_pay2 (F := Ideal) x0 x1 (ix2 (y 1) j)) (Fin.ext ?_)
  have h2' : (y 2).val = k.val := h2
  show 64 * h.val + k.val = 64 * (y 0).val + (y 2).val
  omega

/-- In a head's last column the scratch holds the ones stored there. -/
theorem feats_ones (x0 : FVec Ideal S4096x256 .bf16) (x1 : FVec Ideal S256x256 .bf16) (x : S1x4096x1.Idx)
    (y : S4x4096x65.Idx) (h2 : (y 2).val = 64 + (x 2).val) : ones x = feats x0 x1 y := by
  rw [ones_apply, feats, dif_neg (by omega)]

set_option maxHeartbeats 1000000 in
/-- The eight stores of the first point fill the scratch of features. -/
theorem canon_feats (x0 : FVec Ideal S4096x256 .bf16) (x1 : FVec Ideal S256x256 .bf16) :
    View.canon (Val := Elt Ideal) (s := S4x4096x65) (e := .bf16)
      [⟨Rect.unit ![3, 0, 64] ![1, 4096, 1] inb_S4x4096x65_S1x4096x1_3_0_64, k0_pay16 (F := Ideal)⟩,
        ⟨Rect.unit ![3, 0, 0] ![1, 4096, 64] inb_S4x4096x65_S1x4096x64_3_0_0, k0_pay15 (F := Ideal) (k0_pay2 x0 x1)⟩,
        ⟨Rect.unit ![2, 0, 64] ![1, 4096, 1] inb_S4x4096x65_S1x4096x1_2_0_64, k0_pay14 (F := Ideal)⟩,
        ⟨Rect.unit ![2, 0, 0] ![1, 4096, 64] inb_S4x4096x65_S1x4096x64_2_0_0, k0_pay13 (F := Ideal) (k0_pay2 x0 x1)⟩,
        ⟨Rect.unit ![1, 0, 64] ![1, 4096, 1] inb_S4x4096x65_S1x4096x1_1_0_64, k0_pay12 (F := Ideal)⟩,
        ⟨Rect.unit ![1, 0, 0] ![1, 4096, 64] inb_S4x4096x65_S1x4096x64_1_0_0, k0_pay11 (F := Ideal) (k0_pay2 x0 x1)⟩,
        ⟨Rect.unit ![0, 0, 64] ![1, 4096, 1] inb_S4x4096x65_S1x4096x1_0_0_64, k0_pay10 (F := Ideal)⟩,
        ⟨Rect.unit ![0, 0, 0] ![1, 4096, 64] inb_S4x4096x65_S1x4096x64_0_0_0, k0_pay9 (F := Ideal) (k0_pay2 x0 x1)⟩] = feats x0 x1 := by
  funext y
  canon_tiles x h using View.cover_of_tiledBy _ ![1, 4096, 1] (by sl_kernel_rfl) y
  · exact feats_ones x0 x1 x y h2
  · exact feats_cols x0 x1 3 x y (by show (y 0).val = 3; omega) h1 h2
  · exact feats_ones x0 x1 x y h2
  · exact feats_cols x0 x1 2 x y (by show (y 0).val = 2; omega) h1 h2
  · exact feats_ones x0 x1 x y h2
  · exact feats_cols x0 x1 1 x y (by show (y 0).val = 1; omega) h1 h2
  · exact feats_ones x0 x1 x y h2
  · exact feats_cols x0 x1 0 x y (by show (y 0).val = 0; omega) h1 h2

/-- The first row of a point's block. -/
theorem off_rows (i : grid0.Coords) : (Scalar.indexCast (Scalar.muli (BitVec.ofNat 32 (i 0).val) 512#32)).toNat = 512 * (i 0).val :=
  (by decide : ∀ v : Fin 8, (Scalar.indexCast (Scalar.muli (BitVec.ofNat 32 v.val) 512#32)).toNat = 512 * v.val) (i 0)

/-- One entry of the result, from the scratch buffers and a row of the mask: the kernel's mixed attention of a head's
    feature at a row, through its exponential linear unit. -/
def entry (s0 : FVec Ideal S4x4096x65 .bf16) (s1 s2 : FVec Ideal S4096x4 .bf16) (s3 s4 : FVec Ideal S4x4096 .bf16)
    (a : Fin 4096 → EReal) (n : Fin 4096) (h : Fin 4) (k : Fin 64) : EReal :=
  Math.unitK (Math.mixK (Ideal.ofBits .f32 0x3F666666#32) (Ideal.ofBits .f32 0x3DCCCCCD#32)
    (s1 (ix2 n h)) (s2 (ix2 n h)) (fun m => s3 (ix2 h m)) (fun m => s4 (ix2 h m)) a
    (fun m => s0 (ix3 h m 64)) (fun m => s0 (ix3 h m ⟨k.val, by omega⟩)) (s0 (ix3 h n ⟨k.val, by omega⟩)))

/-- A point's block of the result, from the scratch buffers and its block of the mask. -/
def block (i : grid0.Coords) (x4 : FVec Ideal S512x4096 .f32) (s0 : FVec Ideal S4x4096x65 .bf16)
    (s1 s2 : FVec Ideal S4096x4 .bf16) (s3 s4 : FVec Ideal S4x4096 .bf16) : FVec Ideal S512x256 .f32 := fun y =>
  entry s0 s1 s2 s3 s4 (fun m => x4 (ix2 (y 0) m))
    ⟨512 * (i 0).val + (y 0).val, by have h0 : (i 0).val < 8 := (i 0).isLt; have h1 : (y 0).val < 512 := (y 0).isLt; omega⟩
    ⟨(y 1).val / 64, by have h1 : (y 1).val < 256 := (y 1).isLt; omega⟩ ⟨(y 1).val % 64, Nat.mod_lt _ (by norm_num)⟩

/-- The kernel's mixed attention respects equality of its operands. -/
theorem mixK_congr {ι : Type} [Fintype ι] (c₁ c₂ : EReal) {u₁ u₂ d u₁' u₂' d' : EReal} {v₁ v₂ a o y v₁' v₂' a' o' y' : ι → EReal}
    (hu₁ : u₁ = u₁') (hu₂ : u₂ = u₂') (hv₁ : ∀ m, v₁ m = v₁' m) (hv₂ : ∀ m, v₂ m = v₂' m) (ha : ∀ m, a m = a' m)
    (ho : ∀ m, o m = o' m) (hy : ∀ m, y m = y' m) (hd : d = d') :
    Math.mixK c₁ c₂ u₁ u₂ v₁ v₂ a o y d = Math.mixK c₁ c₂ u₁' u₂' v₁' v₂' a' o' y' d' := by
  rw [hu₁, hu₂, hd, funext hv₁, funext hv₂, funext ha, funext ho, funext hy]

/-- A load of the feature scratch, out of what the eight stores of the first point left. -/
theorem read_feats {κ : Kind} {sp : Space} (v : View sig κ sp S4x4096x65 .bf16) (x0 : FVec Ideal S4096x256 .bf16) (x1 : FVec Ideal S256x256 .bf16)
    (r : Rect S4x4096x65) :
    v.readCov (Val := Elt Ideal)
      [⟨Rect.unit ![3, 0, 64] ![1, 4096, 1] inb_S4x4096x65_S1x4096x1_3_0_64, k0_pay16 (F := Ideal)⟩,
        ⟨Rect.unit ![3, 0, 0] ![1, 4096, 64] inb_S4x4096x65_S1x4096x64_3_0_0, k0_pay15 (F := Ideal) (k0_pay2 x0 x1)⟩,
        ⟨Rect.unit ![2, 0, 64] ![1, 4096, 1] inb_S4x4096x65_S1x4096x1_2_0_64, k0_pay14 (F := Ideal)⟩,
        ⟨Rect.unit ![2, 0, 0] ![1, 4096, 64] inb_S4x4096x65_S1x4096x64_2_0_0, k0_pay13 (F := Ideal) (k0_pay2 x0 x1)⟩,
        ⟨Rect.unit ![1, 0, 64] ![1, 4096, 1] inb_S4x4096x65_S1x4096x1_1_0_64, k0_pay12 (F := Ideal)⟩,
        ⟨Rect.unit ![1, 0, 0] ![1, 4096, 64] inb_S4x4096x65_S1x4096x64_1_0_0, k0_pay11 (F := Ideal) (k0_pay2 x0 x1)⟩,
        ⟨Rect.unit ![0, 0, 64] ![1, 4096, 1] inb_S4x4096x65_S1x4096x1_0_0_64, k0_pay10 (F := Ideal)⟩,
        ⟨Rect.unit ![0, 0, 0] ![1, 4096, 64] inb_S4x4096x65_S1x4096x64_0_0_0, k0_pay9 (F := Ideal) (k0_pay2 x0 x1)⟩] r.toLoadRect
      = View.ld (Val := Elt Ideal) (S := S4x4096x65) (e' := .bf16) (feats x0 x1) r := by
  rw [← canon_feats]
  exact View.readCov_eq_canon' ..

/-- A load of a column scratch, out of what its one whole store left. -/
theorem read_rows {κ : Kind} {sp : Space} (v : View sig κ sp S4x4096 .bf16) (w : FVec Ideal S4x4096 .bf16) (r : Rect S4x4096) :
    v.readCov (Val := Elt Ideal) [⟨Rect.unit ![0, 0] ![4, 4096] inb_S4x4096_S4x4096_0_0, w⟩] r.toLoadRect
      = View.ld (Val := Elt Ideal) (S := S4x4096) (e' := .bf16) w r := by
  have hw : View.canon (Val := Elt Ideal) (s := S4x4096) (e := .bf16) [⟨Rect.unit ![0, 0] ![4, 4096] inb_S4x4096_S4x4096_0_0, w⟩] = w := by
    funext y
    canon_tiles x h
    refine congrArg w (funext fun a => ?_)
    fin_cases a
    · exact Fin.ext h0.symm
    · exact Fin.ext h1.symm
  refine (View.readCov_eq_canon' ..).trans ?_
  exact congrArg (fun f : FVec Ideal S4x4096 .bf16 => fun j => f (r.toLoadRect.idx j)) hw

/-- A head's tile of a point's block: what the head computes from its loads is the block there. -/
theorem tile (i : grid0.Coords) (x4 : FVec Ideal S512x4096 .f32) (s0 : FVec Ideal S4x4096x65 .bf16)
    (s1 s2 : FVec Ideal S4096x4 .bf16) (s3 s4 : FVec Ideal S4x4096 .bf16) (h : Fin 4) (o : Fin 3 → ℕ)
    (o0 : o 0 = h.val) (o1 : o 1 = 512 * (i 0).val) (o2 : o 2 = 0)
    (b1 : ∀ a, k0_off1 i a + ![512, 4] a ≤ S4096x4.size a) (b3 : ∀ a, ![h.val, 0] a + ![1, 4096] a ≤ S4x4096.size a)
    (b5 : ∀ a, ![h.val, 0, 0] a + ![1, 4096, 65] a ≤ S4x4096x65.size a) (b6 : ∀ a, o a + ![1, 512, 64] a ≤ S4x4096x65.size a)
    (x : S512x64.Idx) (y : S512x256.Idx) (h0 : (y 0).val = (x 0).val) (h1 : (y 1).val = 64 * h.val + (x 1).val)
    (u₁ u₂ : FVec Ideal S512x4 .bf16) (v₁ v₂ : FVec Ideal S1x4096 .bf16) (p : FVec Ideal S1x4096x65 .bf16) (d : FVec Ideal S1x512x64 .bf16)
    (hu₁ : u₁ = View.ld (Val := Elt Ideal) (S := S4096x4) (e' := .bf16) s1 (Rect.unit (k0_off1 i) ![512, 4] b1))
    (hu₂ : u₂ = View.ld (Val := Elt Ideal) (S := S4096x4) (e' := .bf16) s2 (Rect.unit (k0_off1 i) ![512, 4] b1))
    (hv₁ : v₁ = View.ld (Val := Elt Ideal) (S := S4x4096) (e' := .bf16) s3 (Rect.unit ![h.val, 0] ![1, 4096] b3))
    (hv₂ : v₂ = View.ld (Val := Elt Ideal) (S := S4x4096) (e' := .bf16) s4 (Rect.unit ![h.val, 0] ![1, 4096] b3))
    (hp : p = View.ld (Val := Elt Ideal) (S := S4x4096x65) (e' := .bf16) s0 (Rect.unit ![h.val, 0, 0] ![1, 4096, 65] b5))
    (hd : d = View.ld (Val := Elt Ideal) (S := S4x4096x65) (e' := .bf16) s0 (Rect.unit o ![1, 512, 64] b6)) :
    Head.head (k0_pay17 x4) u₁ u₂ v₁ v₂ p d h x = block i x4 s0 s1 s2 s3 s4 y := by
  obtain ⟨r, k, rfl⟩ : ∃ (r : Fin 512) (k : Fin 64), x = ix2 r k := ⟨x 0, x 1, eq_ix2 x⟩
  have h0' : (y 0).val = r.val := h0
  have h1' : (y 1).val = 64 * h.val + k.val := h1
  have hi : (i 0).val < 8 := (i 0).isLt
  have hy : block i x4 s0 s1 s2 s3 s4 y
      = entry s0 s1 s2 s3 s4 (fun m => x4 (ix2 r m)) ⟨512 * (i 0).val + r.val, by omega⟩ h k := by
    have key : ∀ (r' : Fin 512) (n' : Fin 4096) (h' : Fin 4) (k' : Fin 64), r'.val = r.val → n'.val = 512 * (i 0).val + r.val →
        h'.val = h.val → k'.val = k.val → entry s0 s1 s2 s3 s4 (fun m => x4 (ix2 r' m)) n' h' k'
          = entry s0 s1 s2 s3 s4 (fun m => x4 (ix2 r m)) ⟨512 * (i 0).val + r.val, by omega⟩ h k := by
      intro r' n' h' k' er en eh ek
      obtain rfl : r' = r := Fin.ext er
      obtain rfl : h' = h := Fin.ext eh
      obtain rfl : k' = k := Fin.ext ek
      exact congrArg (fun n => entry s0 s1 s2 s3 s4 (fun m => x4 (ix2 r' m)) n h' k') (Fin.ext en)
    exact key _ _ _ _ h0' (by show 512 * (i 0).val + (y 0).val = _; omega) (by show (y 1).val / 64 = _; omega)
      (by show (y 1).val % 64 = _; omega)
  have e1 : ∀ s : FVec Ideal S4096x4 .bf16, View.ld (Val := Elt Ideal) (S := S4096x4) (e' := .bf16) s (Rect.unit (k0_off1 i) ![512, 4] b1) (ix2 r h)
      = s (ix2 ⟨512 * (i 0).val + r.val, by omega⟩ h) := fun s =>
    View.ld_unit_apply_of (Val := Elt Ideal) (e := .bf16) s _ _ _ _ _ fun a => by
      fin_cases a
      · show 512 * (i 0).val + r.val = (Scalar.indexCast (Scalar.muli (BitVec.ofNat 32 (i 0).val) 512#32)).toNat + r.val
        rw [off_rows]
      · show h.val = 0 + h.val
        omega
  have e3 : ∀ (s : FVec Ideal S4x4096 .bf16) (m : Fin 4096),
      View.ld (Val := Elt Ideal) (S := S4x4096) (e' := .bf16) s (Rect.unit ![h.val, 0] ![1, 4096] b3) (ix2 0 m) = s (ix2 h m) := fun s m =>
    View.ld_unit_apply_of (Val := Elt Ideal) (e := .bf16) s _ _ _ _ _ fun a => by
      fin_cases a
      · show h.val = h.val + 0
        omega
      · show m.val = 0 + m.val
        omega
  have e5 : ∀ (m : Fin 4096) (k : Fin 65),
      View.ld (Val := Elt Ideal) (S := S4x4096x65) (e' := .bf16) s0 (Rect.unit ![h.val, 0, 0] ![1, 4096, 65] b5) (ix3 0 m k) = s0 (ix3 h m k) := fun m k =>
    View.ld_unit_apply_of (Val := Elt Ideal) (e := .bf16) s0 _ _ _ _ _ fun a => by
      fin_cases a
      · show h.val = h.val + 0
        omega
      · show m.val = 0 + m.val
        omega
      · show k.val = 0 + k.val
        omega
  have e6 : View.ld (Val := Elt Ideal) (S := S4x4096x65) (e' := .bf16) s0 (Rect.unit o ![1, 512, 64] b6) (ix3 0 r k)
      = s0 (ix3 h ⟨512 * (i 0).val + r.val, by omega⟩ ⟨k.val, by omega⟩) :=
    View.ld_unit_apply_of (Val := Elt Ideal) (e := .bf16) s0 _ _ _ _ _ fun a => by
      fin_cases a
      · show h.val = o 0 + 0
        omega
      · show 512 * (i 0).val + r.val = o 1 + r.val
        omega
      · show k.val = o 2 + k.val
        omega
  rw [hy]
  refine (Head.head_apply ..).trans ?_
  exact congrArg Math.unitK (mixK_congr _ _ ((congrFun hu₁ _).trans (e1 s1)) ((congrFun hu₂ _).trans (e1 s2))
    (fun m => (congrFun hv₁ _).trans (e3 s3 m)) (fun m => (congrFun hv₂ _).trans (e3 s4 m)) (fun m => rfl)
    (fun m => (congrFun hp _).trans (e5 m 64)) (fun m => (congrFun hp _).trans (e5 m ⟨k.val, by omega⟩)) ((congrFun hd _).trans e6))

section
variable (c : Dev nD) (i : grid0.Coords)
  (arg1 : Memref sig .tc .vmem S4096x256 .bf16) (harg1 : arg1.IsWhole) (arg2 : Memref sig .tc .vmem S256x256 .bf16) (harg2 : arg2.IsWhole)
  (arg3 : Memref sig .tc .vmem S256x4 .bf16) (harg3 : arg3.IsWhole) (arg4 : Memref sig .tc .vmem S256x4 .bf16) (harg4 : arg4.IsWhole)
  (arg5 : Memref sig .tc .vmem S512x4096 .f32) (harg5 : arg5.IsWhole) (arg6 : Memref sig .tc .vmem S512x256 .f32) (harg6 : arg6.IsWhole)
  (arg7 : Memref sig .tc .vmem S4x4096x65 .bf16) (harg7 : arg7.IsWhole) (arg8 : Memref sig .tc .vmem S4096x4 .bf16) (harg8 : arg8.IsWhole)
  (arg9 : Memref sig .tc .vmem S4096x4 .bf16) (harg9 : arg9.IsWhole) (arg10 : Memref sig .tc .vmem S4x4096 .bf16) (harg10 : arg10.IsWhole)
  (arg11 : Memref sig .tc .vmem S4x4096 .bf16) (harg11 : arg11.IsWhole)
  (x0 : Vec Ideal S4096x256 .bf16) (x1 : Vec Ideal S256x256 .bf16) (x2 : Vec Ideal S256x4 .bf16) (x3 : Vec Ideal S256x4 .bf16)
  (x4 : Vec Ideal S512x4096 .f32)

/-- The first point leaves the exponentials of the first scores. -/
theorem first_1 (hc0 : cond0_0 i) :
    sout0_A_1 c i arg1 harg1 arg2 harg2 arg3 harg3 arg4 harg4 arg5 harg5 arg6 harg6 arg7 harg7 arg8 harg8 arg9 harg9 arg10 harg10 arg11 harg11 hc0 x0 x1 x2 x3 x4 = k0_pay4 x0 x1 x2 := by
  frame_out

/-- It leaves the exponentials of the scaled first scores. -/
theorem first_2 (hc0 : cond0_0 i) :
    sout0_A_2 c i arg1 harg1 arg2 harg2 arg3 harg3 arg4 harg4 arg5 harg5 arg6 harg6 arg7 harg7 arg8 harg8 arg9 harg9 arg10 harg10 arg11 harg11 hc0 x0 x1 x2 x3 x4 = k0_pay5 x0 x1 x2 := by
  frame_out

/-- It leaves the exponentials of the second scores. -/
theorem first_3 (hc0 : cond0_0 i) :
    sout0_A_3 c i arg1 harg1 arg2 harg2 arg3 harg3 arg4 harg4 arg5 harg5 arg6 harg6 arg7 harg7 arg8 harg8 arg9 harg9 arg10 harg10 arg11 harg11 hc0 x0 x1 x2 x3 x4 = k0_pay7 x0 x1 x3 := by
  frame_out

/-- It leaves the exponentials of the scaled second scores. -/
theorem first_4 (hc0 : cond0_0 i) :
    sout0_A_4 c i arg1 harg1 arg2 harg2 arg3 harg3 arg4 harg4 arg5 harg5 arg6 harg6 arg7 harg7 arg8 harg8 arg9 harg9 arg10 harg10 arg11 harg11 hc0 x0 x1 x2 x3 x4 = k0_pay8 x0 x1 x3 := by
  frame_out

/-- The first point fills the scratch of features. -/
theorem first_0 (hc0 : cond0_0 i) :
    sout0_A_0 c i arg1 harg1 arg2 harg2 arg3 harg3 arg4 harg4 arg5 harg5 arg6 harg6 arg7 harg7 arg8 harg8 arg9 harg9 arg10 harg10 arg11 harg11 hc0 x0 x1 x2 x3 x4 = feats x0 x1 := by
  frame_out
  exact canon_feats x0 x1

/-- A later point writes its block of the result, from the scratch buffers as it finds them. -/
theorem later_5 (hc0 : ¬cond0_0 i) (s0 : Vec Ideal S4x4096x65 .bf16) (s1 s2 : Vec Ideal S4096x4 .bf16) (s3 s4 : Vec Ideal S4x4096 .bf16) :
    out0_B_5 c i arg1 harg1 arg2 harg2 arg3 harg3 arg4 harg4 arg5 harg5 arg6 harg6 arg7 harg7 arg8 harg8 arg9 harg9 arg10 harg10 arg11 harg11 hc0 x0 x1 x2 x3 x4 s0 s1 s2 s3 s4 = block i x4 s0 s1 s2 s3 s4 := by
  frame_out
  funext y
  canon_tiles x h
  · exact (congrFun (Head.pay_3 ..) x).trans (tile i x4 _ _ _ _ _ 3 (k0_off5 i) rfl (off_rows i) rfl _ _ _ _ x y h0 h1 _ _ _ _ _ _
      rfl rfl rfl rfl rfl rfl)
  · exact (congrFun (Head.pay_2 ..) x).trans (tile i x4 _ _ _ _ _ 2 (k0_off4 i) rfl (off_rows i) rfl _ _ _ _ x y h0 h1 _ _ _ _ _ _
      rfl rfl rfl rfl rfl rfl)
  · exact (congrFun (Head.pay_1 ..) x).trans (tile i x4 _ _ _ _ _ 1 (k0_off3 i) rfl (off_rows i) rfl _ _ _ _ x y h0 h1 _ _ _ _ _ _
      rfl rfl rfl rfl rfl rfl)
  · exact (congrFun (Head.pay_0 ..) x).trans (tile i x4 _ _ _ _ _ 0 (k0_off2 i) rfl (off_rows i) rfl _ _ _ _ x y h0 (by show _ = 64 * 0 + _; omega) _ _ _ _ _ _
      rfl rfl rfl rfl rfl rfl)

/-- The first point writes its block of the result, from the scratch buffers as it fills them. -/
theorem first_5 (hc0 : cond0_0 i) :
    out0_A_5 c i arg1 harg1 arg2 harg2 arg3 harg3 arg4 harg4 arg5 harg5 arg6 harg6 arg7 harg7 arg8 harg8 arg9 harg9 arg10 harg10 arg11 harg11 hc0 x0 x1 x2 x3 x4
      = block i x4 (feats x0 x1) (k0_pay4 x0 x1 x2) (k0_pay5 x0 x1 x2) (k0_pay7 x0 x1 x3) (k0_pay8 x0 x1 x3) := by
  frame_out
  rw [canon_feats]
  funext y
  canon_tiles x h
  · exact (congrFun (Head.pay_3 ..) x).trans (tile i x4 _ _ _ _ _ 3 (k0_off5 i) rfl (off_rows i) rfl _ _ _ _ x y h0 h1 _ _ _ _ _ _
      rfl rfl (read_rows ..) (read_rows ..) (read_feats ..) rfl)
  · exact (congrFun (Head.pay_2 ..) x).trans (tile i x4 _ _ _ _ _ 2 (k0_off4 i) rfl (off_rows i) rfl _ _ _ _ x y h0 h1 _ _ _ _ _ _
      rfl rfl (read_rows ..) (read_rows ..) (read_feats ..) rfl)
  · exact (congrFun (Head.pay_1 ..) x).trans (tile i x4 _ _ _ _ _ 1 (k0_off3 i) rfl (off_rows i) rfl _ _ _ _ x y h0 h1 _ _ _ _ _ _
      rfl rfl (read_rows ..) (read_rows ..) (read_feats ..) rfl)
  · exact (congrFun (Head.pay_0 ..) x).trans (tile i x4 _ _ _ _ _ 0 (k0_off2 i) rfl (off_rows i) rfl _ _ _ _ x y h0 (by show _ = 64 * 0 + _; omega) _ _ _ _ _ _
      rfl rfl (read_rows ..) (read_rows ..) (read_feats ..) rfl)

end

end Cert.Block
-- ==== Proof.Sweep.lean ====
module

public import proofs.«01_k».proof.Proof.Block
public import proofs.«01_k».proof.Proof.Gen.KernelIdeal.Value
public import Idealize.ShloMosaic.Lib.Pipeline.ValueKit

@[expose] public section

set_option maxRecDepth 16384

noncomputable section

/-! What the whole sweep over the grid leaves: every point finds the scratch buffers as the first point filled them, so
    an entry of the result array is the kernel's mixed attention at its row, head and feature. -/

namespace Cert.Sweep

open Cert.KernelIdeal Cert.KernelIdeal.Gen Idealize.ShloMosaic Idealize.ShloMosaic.TcCoe Idealize.SL.Sem

variable (m : (ℓ : Loc nD τ sig) → Buf (Elt Ideal) ℓ) (c : Dev nD)

/-- The features operand as the launch finds it. -/
abbrev opX : FVec Ideal S4096x256 .bf16 := V m c main_v25
/-- The stacked weights operand as the launch finds it. -/
abbrev opW : FVec Ideal S256x256 .bf16 := V m c main_v2
/-- The stacked first score vectors as the launch finds them. -/
abbrev opA : FVec Ideal S256x4 .bf16 := V m c main_v16
/-- The stacked second score vectors as the launch finds them. -/
abbrev opB : FVec Ideal S256x4 .bf16 := V m c main_v24

/-- The feature scratch, filled. -/
abbrev sF : FVec Ideal S4x4096x65 .bf16 := Block.feats (opX m c) (opW m c)
/-- The exponentials of the first scores. -/
abbrev sU₁ : FVec Ideal S4096x4 .bf16 := k0_pay4 (opX m c) (opW m c) (opA m c)
/-- The exponentials of the scaled first scores. -/
abbrev sU₂ : FVec Ideal S4096x4 .bf16 := k0_pay5 (opX m c) (opW m c) (opA m c)
/-- The exponentials of the second scores. -/
abbrev sV₁ : FVec Ideal S4x4096 .bf16 := k0_pay7 (opX m c) (opW m c) (opB m c)
/-- The exponentials of the scaled second scores. -/
abbrev sV₂ : FVec Ideal S4x4096 .bf16 := k0_pay8 (opX m c) (opW m c) (opB m c)

/-- The block every window is at, at each point. -/
theorem idx : ∀ t : Fin cfg0.N, win0_0.index t = ![0, 0] ∧ win0_1.index t = ![0, 0] ∧ win0_2.index t = ![0, 0]
    ∧ win0_3.index t = ![0, 0] ∧ win0_4.index t = ![t.val, 0] :=
  (by decide : ∀ t : Fin grid0.N, _)

/-- Every point's features operand is the whole. -/
theorem iblk_0 (t : Fin cfg0.N) : iblk m c 0 t = opX m c := by
  funext y
  refine congrArg (V m c main_v25) ?_
  blk_ext [idx t]

/-- So is its weights operand. -/
theorem iblk_1 (t : Fin cfg0.N) : iblk m c 1 t = opW m c := by
  funext y
  refine congrArg (V m c main_v2) ?_
  blk_ext [idx t]

/-- So is its operand of first score vectors. -/
theorem iblk_2 (t : Fin cfg0.N) : iblk m c 2 t = opA m c := by
  funext y
  refine congrArg (V m c main_v16) ?_
  blk_ext [idx t]

/-- So is its operand of second score vectors. -/
theorem iblk_3 (t : Fin cfg0.N) : iblk m c 3 t = opB m c := by
  funext y
  refine congrArg (V m c main_v24) ?_
  blk_ext [idx t]

/-- A point's block of the mask is its rows of the mask. -/
theorem iblk_4 (t : Fin cfg0.N) (r : Fin 512) (j n : Fin 4096) (h : n.val = 512 * t.val + r.val) :
    iblk m c 4 t (ix2 r j) = m ((c : Thread nD τ).loc main_arg1) (ix2 n j) := by
  rw [← V_main_arg1 m c]
  refine congrArg (V m c main_arg1) ?_
  blk_ext [idx t]

/-- What every point leaves: its block of the result, and the scratch buffers as the first point filled them. -/
theorem sweep (n : ℕ) (hn : n < cfg0.N) : outsAt0 m c n hn =
    (Block.block (grid0.coords ⟨n, hn⟩) (iblk m c 4 ⟨n, hn⟩) (sF m c) (sU₁ m c)
      (sU₂ m c) (sV₁ m c) (sV₂ m c),
      sF m c, sU₁ m c, sU₂ m c,
      sV₁ m c, sV₂ m c) := by
  induction n with
  | zero =>
    refine (outsAt0_A m c ⟨0, hn⟩ (Nat.zero_mod _)).trans ?_
    rw [Block.first_5, Block.first_0, Block.first_1, Block.first_2, Block.first_3, Block.first_4, iblk_0, iblk_1, iblk_2, iblk_3]
  | succ n ih =>
    have hN : n + 1 < 8 := lt_of_lt_of_eq hn N_0
    refine (outsAt0_B m c ⟨n + 1, hn⟩ (by show ¬(n + 1) % 8 = 0; omega)).trans ?_
    rw [Block.later_5]
    show (Block.block _ _ (outsAt0 m c n _).2.1 (outsAt0 m c n _).2.2.1 (outsAt0 m c n _).2.2.2.1 (outsAt0 m c n _).2.2.2.2.1
      (outsAt0 m c n _).2.2.2.2.2, (outsAt0 m c n _).2.1, (outsAt0 m c n _).2.2.1, (outsAt0 m c n _).2.2.2.1, (outsAt0 m c n _).2.2.2.2.1,
      (outsAt0 m c n _).2.2.2.2.2) = _
    rw [ih]

/-- The first coordinate of a point is its number. -/
theorem coord (t : Fin cfg0.N) : (grid0.coords t 0).val = t.val :=
  (by decide : ∀ t : Fin grid0.N, (grid0.coords t 0).val = t.val) t

/-- An entry of the result array: the kernel's mixed attention at its row, head and feature. -/
theorem entry_at (n : Fin 4096) (j : Fin 256) : Value.G5 m c (ix2 n j)
    = Block.entry (sF m c) (sU₁ m c)
      (sU₂ m c) (sV₁ m c) (sV₂ m c)
      (fun k => m ((c : Thread nD τ).loc main_arg1) (ix2 n k)) n ⟨j.val / 64, by omega⟩ ⟨j.val % 64, Nat.mod_lt _ (by norm_num)⟩ := by
  have e : Value.pt5Of (ix2 n j) = n.val / 512 := by
    show 1 * (n.val / 512 - 0) + 1 * (j.val / 256 - 0) = n.val / 512
    omega
  have hp : Value.pt5Of (ix2 n j) < cfg0.N := by
    rw [e, show cfg0.N = 8 from N_0]
    omega
  have e' : (grid0.coords ⟨Value.pt5Of (ix2 n j), hp⟩ 0).val = n.val / 512 := (coord ⟨_, hp⟩).trans e
  rw [Value.G5, dif_pos hp, ← Value.outsAt0_sweep m c _ hp, sweep]
  have key : ∀ (a a' : Fin 4096 → EReal) (n' : Fin 4096) (h h' : Fin 4) (k k' : Fin 64), a = a' → n' = n → h = h' → k = k' →
      Block.entry (sF m c) (sU₁ m c)
        (sU₂ m c) (sV₁ m c) (sV₂ m c) a n' h k
      = Block.entry (sF m c) (sU₁ m c)
        (sU₂ m c) (sV₁ m c) (sV₂ m c) a' n h' k' := by
    rintro a _ _ h _ k _ rfl rfl rfl rfl
    rfl
  refine key _ _ _ _ _ _ _ (funext fun k => iblk_4 m c _ _ k n ?_) (Fin.ext ?_) (Fin.ext ?_) (Fin.ext ?_)
  · show n.val = 512 * Value.pt5Of (ix2 n j) + n.val % 512
    omega
  · show 512 * (grid0.coords ⟨Value.pt5Of (ix2 n j), hp⟩ 0).val + n.val % 512 = n.val
    omega
  · show j.val % 256 / 64 = j.val / 64
    omega
  · show j.val % 256 % 64 = j.val % 64
    omega

end Cert.Sweep
-- ==== Proof.Host.lean ====
module

public import proofs.«01_k».proof.Proof.Sweep
public import Idealize.ShloMosaic.Lib.Pointwise
public import Idealize.ShloMosaic.Lib.Claim

@[expose] public section

set_option maxRecDepth 16384

noncomputable section

/-! What the host code gives the launch, and the kernel's result at an index as a function of the argument arrays. -/

namespace Cert.Host

open Cert.KernelIdeal Cert.KernelIdeal.Gen Idealize.ShloMosaic Idealize.ShloMosaic.TcCoe Idealize.SL.Sem Cert.Sweep

variable (m : (ℓ : Loc nD τ sig) → Buf (Elt Ideal) ℓ) (c : Dev nD)

/-- The argument arrays. -/
abbrev argX : FVec Ideal S4096x256 .f32 := m ((c : Thread nD τ).loc main_arg0)
abbrev argAdj : FVec Ideal S4096x4096 .f32 := m ((c : Thread nD τ).loc main_arg1)
abbrev argW : FVec Ideal S4x256x64 .f32 := m ((c : Thread nD τ).loc main_arg3)
abbrev argA : FVec Ideal S4x64 .f32 := m ((c : Thread nD τ).loc main_arg4)
abbrev argB : FVec Ideal S4x64 .f32 := m ((c : Thread nD τ).loc main_arg5)

/-- Equal Fin coordinates of the stacked axis. -/
theorem stacked (h : Fin 4) (k : Fin 64) : (64 * h.val + k.val) / 64 = h.val ∧ (64 * h.val + k.val) % 64 = k.val := by omega

/-- The features operand is the features. -/
theorem opX_apply (n : Fin 4096) (f : Fin 256) : opX m c (ix2 n f) = argX m c (ix2 n f) := by
  show V m c main_v25 (ix2 n f) = _
  entry_read
  rfl

/-- The weights operand has the heads' weights side by side. -/
theorem opW_apply (f : Fin 256) (h : Fin 4) (k : Fin 64) : opW m c (ix2 f ⟨64 * h.val + k.val, by omega⟩) = argW m c (ix3 h f k) := by
  show V m c main_v2 (ix2 f ⟨64 * h.val + k.val, by omega⟩) = _
  entry_read
  pointwise
  have e : ∀ (h' : Fin 4) (k' : Fin 64), h' = h → k' = k → argW m c (ix3 h' f k') = argW m c (ix3 h f k) := by
    rintro _ _ rfl rfl
    rfl
  exact e _ _ (Fin.ext (stacked h k).1) (Fin.ext (stacked h k).2)

/-- The comparison of two head numbers, as a float, is one on the diagonal and zero off it. -/
theorem diag (h h' : Fin 4) : (FloatOps.uitofp (F := Ideal) FTy.f32
    (IntOp.cmpi CmpIPredicate.eq (IntOp.addi (BitVec.ofNat 32 h.val) 0#32) (BitVec.ofNat 32 h'.val)) : EReal) = if h' = h then 1 else 0 := by
  have e : IntOp.cmpi CmpIPredicate.eq (IntOp.addi (BitVec.ofNat 32 h.val) 0#32) (BitVec.ofNat 32 h'.val) = if h' = h then 1#1 else 0#1 := by
    revert h h'
    decide
  rw [e]
  split
  · show (((1#1).toNat : ℝ) : EReal) = 1
    norm_num
  · show (((0#1).toNat : ℝ) : EReal) = 0
    norm_num

/-- The stacked first score vectors: a head's column holds its vector in its own rows, and zero in the others'. -/
theorem opA_apply (h' h : Fin 4) (k : Fin 64) :
    opA m c (ix2 ⟨64 * h'.val + k.val, by omega⟩ h) = argA m c (ix2 h k) * (if h' = h then 1 else 0) := by
  show V m c main_v16 (ix2 ⟨64 * h'.val + k.val, by omega⟩ h) = _
  entry_read
  pointwise
  have e : ∀ (k' : Fin 64) (q : ℕ), k' = k → q = h'.val → argA m c (ix2 h k') * (FloatOps.uitofp (F := Ideal) FTy.f32
      (IntOp.cmpi CmpIPredicate.eq (IntOp.addi (BitVec.ofNat 32 h.val) 0#32) (BitVec.ofNat 32 q)) : EReal)
        = argA m c (ix2 h k) * (if h' = h then 1 else 0) := by
    rintro _ _ rfl rfl
    rw [diag]
  exact e _ _ (Fin.ext (stacked h' k).2) (stacked h' k).1

/-- The stacked second score vectors likewise. -/
theorem opB_apply (h' h : Fin 4) (k : Fin 64) :
    opB m c (ix2 ⟨64 * h'.val + k.val, by omega⟩ h) = argB m c (ix2 h k) * (if h' = h then 1 else 0) := by
  show V m c main_v24 (ix2 ⟨64 * h'.val + k.val, by omega⟩ h) = _
  entry_read
  pointwise
  have e : ∀ (k' : Fin 64) (q : ℕ), k' = k → q = h'.val → argB m c (ix2 h k') * (FloatOps.uitofp (F := Ideal) FTy.f32
      (IntOp.cmpi CmpIPredicate.eq (IntOp.addi (BitVec.ofNat 32 h.val) 0#32) (BitVec.ofNat 32 q)) : EReal)
        = argB m c (ix2 h k) * (if h' = h then 1 else 0) := by
    rintro _ _ rfl rfl
    rw [diag]
  exact e _ _ (Fin.ext (stacked h' k).2) (stacked h' k).1

/-- A head's projected feature at a row. -/
def wh (n : Fin 4096) (h : Fin 4) (k : Fin 64) : EReal := ∑ f : Fin 256, argX m c (ix2 n f) * argW m c (ix3 h f k)

/-- The projected features of the kernel are those. -/
theorem feats_apply (n : Fin 4096) (h : Fin 4) (k : Fin 64) :
    k0_pay2 (F := Ideal) (opX m c) (opW m c) (ix2 n ⟨64 * h.val + k.val, by omega⟩) = wh m c n h k := by
  have e : k0_pay2 (F := Ideal) (opX m c) (opW m c) (ix2 n ⟨64 * h.val + k.val, by omega⟩)
      = ∑ f : Fin 256, opX m c (ix2 n f) * opW m c (ix2 f ⟨64 * h.val + k.val, by omega⟩) := by
    generalize opX m c = X
    generalize opW m c = W
    pointwise [k0_pay2]
  rw [e, wh]
  exact Finset.sum_congr rfl fun f _ => by rw [opX_apply, opW_apply]

/-- A sum over the stacked axis whose terms vanish off a head's own rows is the sum over those rows. -/
theorem sum_stacked (h : Fin 4) (F : Fin 256 → EReal) (g : Fin 64 → EReal)
    (hF : ∀ (h' : Fin 4) (k : Fin 64), F ⟨64 * h'.val + k.val, by omega⟩ = if h' = h then g k else 0) :
    ∑ j : Fin 256, F j = ∑ k : Fin 64, g k := by
  have e : ∑ j : Fin 256, F j = ∑ p : Fin 4 × Fin 64, F ⟨64 * p.1.val + p.2.val, by have := p.1.isLt; have := p.2.isLt; omega⟩ := by
    refine (Fintype.sum_equiv (finProdFinEquiv (m := 4) (n := 64)) _ _ fun p => congrArg F (Fin.ext ?_)).symm
    show 64 * p.1.val + p.2.val = p.2.val + 64 * p.1.val
    omega
  rw [e, Fintype.sum_prod_type]
  simp only [hF]
  rw [Finset.sum_eq_single h (fun h' _ hne => by simp [hne]) (fun hn => absurd (Finset.mem_univ _) hn)]
  simp

/-- A row's first score at a head. -/
def score₁ (n : Fin 4096) (h : Fin 4) : EReal := ∑ k : Fin 64, wh m c n h k * argA m c (ix2 h k)
/-- A row's second score at a head. -/
def score₂ (n : Fin 4096) (h : Fin 4) : EReal := ∑ k : Fin 64, wh m c n h k * argB m c (ix2 h k)

/-- The kernel's first scores, over all heads at once, are the heads' own. -/
theorem pay3_apply (n : Fin 4096) (h : Fin 4) :
    k0_pay3 (F := Ideal) (opX m c) (opW m c) (opA m c) (ix2 n h) = score₁ m c n h := by
  have e : k0_pay3 (F := Ideal) (opX m c) (opW m c) (opA m c) (ix2 n h)
      = ∑ j : Fin 256, k0_pay2 (F := Ideal) (opX m c) (opW m c) (ix2 n j) * opA m c (ix2 j h) := by
    generalize opX m c = X
    generalize opW m c = W
    generalize opA m c = A
    pointwise [k0_pay3]
  rw [e]
  refine sum_stacked h _ _ fun h' k => ?_
  rw [feats_apply, opA_apply]
  split
  · next hh => rw [hh, mul_one]
  · rw [mul_zero, mul_zero]

/-- The kernel's second scores likewise. -/
theorem pay6_apply (n : Fin 4096) (h : Fin 4) :
    k0_pay6 (F := Ideal) (opX m c) (opW m c) (opB m c) (ix2 h n) = score₂ m c n h := by
  have e : k0_pay6 (F := Ideal) (opX m c) (opW m c) (opB m c) (ix2 h n)
      = ∑ j : Fin 256, opB m c (ix2 j h) * k0_pay2 (F := Ideal) (opX m c) (opW m c) (ix2 n j) := by
    generalize opX m c = X
    generalize opW m c = W
    generalize opB m c = B
    pointwise [k0_pay6]
  rw [e]
  refine sum_stacked h _ _ fun h' k => ?_
  rw [feats_apply, opB_apply, mul_comm]
  split
  · next hh => rw [hh, mul_one]
  · rw [mul_zero, mul_zero]

/-- The first scratch table holds the exponentials of the first scores. -/
theorem sU₁_apply (n : Fin 4096) (h : Fin 4) : sU₁ m c (ix2 n h) = Ideal.exp (score₁ m c n h) := by
  rw [← pay3_apply]
  generalize ex : opX m c = X
  generalize ew : opW m c = W
  generalize ea : opA m c = A
  show k0_pay4 (F := Ideal) (opX m c) (opW m c) (opA m c) (ix2 n h) = _
  rw [ex, ew, ea]
  pointwise [k0_pay4]

/-- The second scratch table holds those of the first scores times the slope. -/
theorem sU₂_apply (n : Fin 4096) (h : Fin 4) :
    sU₂ m c (ix2 n h) = Ideal.exp (Ideal.ofBits .f32 0x3E4CCCCD#32 * score₁ m c n h) := by
  rw [← pay3_apply]
  generalize ex : opX m c = X
  generalize ew : opW m c = W
  generalize ea : opA m c = A
  show k0_pay5 (F := Ideal) (opX m c) (opW m c) (opA m c) (ix2 n h) = _
  rw [ex, ew, ea]
  pointwise [k0_pay5]

/-- The third scratch table holds the exponentials of the second scores. -/
theorem sV₁_apply (n : Fin 4096) (h : Fin 4) : sV₁ m c (ix2 h n) = Ideal.exp (score₂ m c n h) := by
  rw [← pay6_apply]
  generalize ex : opX m c = X
  generalize ew : opW m c = W
  generalize ea : opB m c = B
  show k0_pay7 (F := Ideal) (opX m c) (opW m c) (opB m c) (ix2 h n) = _
  rw [ex, ew, ea]
  pointwise [k0_pay7]

/-- The fourth scratch table holds those of the second scores times the slope. -/
theorem sV₂_apply (n : Fin 4096) (h : Fin 4) :
    sV₂ m c (ix2 h n) = Ideal.exp (Ideal.ofBits .f32 0x3E4CCCCD#32 * score₂ m c n h) := by
  rw [← pay6_apply]
  generalize ex : opX m c = X
  generalize ew : opW m c = W
  generalize ea : opB m c = B
  show k0_pay8 (F := Ideal) (opX m c) (opW m c) (opB m c) (ix2 h n) = _
  rw [ex, ew, ea]
  pointwise [k0_pay8]

/-- A feature column of a head's table holds the head's projected features. -/
theorem sF_apply (n : Fin 4096) (h : Fin 4) (k : Fin 64) :
    sF m c (ix3 h n ⟨k.val, by omega⟩) = wh m c n h k :=
  Eq.trans (dif_pos (show ((ix3 h n (⟨k.val, by omega⟩ : Fin 65)) 2).val < 64 from k.isLt)) (feats_apply m c n h k)

/-- The next column of a head's table holds ones. -/
theorem sF_one (n : Fin 4096) (h : Fin 4) : sF m c (ix3 h n 64) = (1 : EReal) :=
  dif_neg (show ¬ ((ix3 h n (64 : Fin 65)) 2).val < 64 from lt_irrefl 64)

/-- The kernel's result at a row and a head's column, from the argument arrays. -/
theorem result_at (n : Fin 4096) (j : Fin 256) (h : Fin 4) (k : Fin 64) (eh : h.val = j.val / 64) (ek : k.val = j.val % 64) :
    Value.G5 m c (ix2 n j)
      = Math.unitK (Math.mixK (Ideal.ofBits .f32 0x3F666666#32) (Ideal.ofBits .f32 0x3DCCCCCD#32)
          (Ideal.exp (score₁ m c n h)) (Ideal.exp (Ideal.ofBits .f32 0x3E4CCCCD#32 * score₁ m c n h))
          (fun q => Ideal.exp (score₂ m c q h)) (fun q => Ideal.exp (Ideal.ofBits .f32 0x3E4CCCCD#32 * score₂ m c q h))
          (fun q => argAdj m c (ix2 n q)) (fun _ => 1) (fun q => wh m c q h k) (wh m c n h k)) := by
  rw [entry_at, ← show h = ⟨j.val / 64, by omega⟩ from Fin.ext eh, ← show k = ⟨j.val % 64, by omega⟩ from Fin.ext ek]
  exact congrArg Math.unitK (Block.mixK_congr _ _ (sU₁_apply m c n h) (sU₂_apply m c n h) (fun q => sV₁_apply m c q h)
    (fun q => sV₂_apply m c q h) (fun _ => rfl) (fun q => sF_one m c q h) (fun q => sF_apply m c q h k) (sF_apply m c n h k))

end Cert.Host
-- ==== Proof.Pre.lean ====
module

public import proofs.«01_k».proof.Defs
public import Idealize.ShloMosaic.Lib.Pointwise
public import Idealize.ShloMosaic.Lib.ReduceAll
public import Idealize.ShloMosaic.Lib.Routing.OpsOrder

@[expose] public section

set_option maxRecDepth 16384

noncomputable section

/-! What the precondition says of the argument arrays, in words of their entries. -/

namespace Cert.Precond

open Cert.Pre_graph Idealize.ShloMosaic

/-- A conjunction of bits that is one had only ones. -/
theorem all_one {ι : Type} [DecidableEq ι] (s : Finset ι) (p : ι → BitVec 1) :
    Finset.fold IntOp.andi (1#1) p s = 1#1 → ∀ q ∈ s, p q = 1#1 := by
  induction s using Finset.induction_on with
  | empty => exact fun _ q hq => absurd hq (Finset.notMem_empty _)
  | insert e s he ih =>
    rw [Finset.fold_insert he]
    intro h q hq
    obtain ⟨h₁, h₂⟩ := IntOp.andi_eq_one.1 h
    rcases Finset.mem_insert.1 hq with rfl | hq
    · exact h₁
    · exact ih h₂ q hq

/-- The same over a whole finite type. -/
theorem all_univ {ι : Type} {ft : Fintype ι} (p : ι → BitVec 1)
    (h : Finset.fold IntOp.andi (1#1) p (@Finset.univ ι ft) = 1#1) (q : ι) : p q = 1#1 := by
  classical
  exact all_one _ p h q (@Finset.mem_univ ι ft q)

/-- A disjunction of two bits that is one has a one. -/
theorem or_one : ∀ p q : BitVec 1, IntOp.ori p q = 1#1 → p = 1#1 ∨ q = 1#1 := by decide

/-- The bit of a decided proposition is one exactly when it holds. -/
theorem bit_one {P : Prop} [Decidable P] : BitVec.ofBool (decide P) = 1#1 ↔ P := by
  by_cases h : P <;> simp [h]

/-- The word of infinity. -/
theorem ofBits_inf : Ideal.ofBits .f32 2139095040#32 = ⊤ := by
  simp [Ideal.ofBits, Ideal.ieee]

/-- A number whose magnitude is below infinity is real. -/
theorem real_of_abs (z : EReal) (h : max z (-z) < ⊤) : ∃ r : ℝ, z = r := by
  induction z with
  | bot => simp at h
  | top => simp at h
  | coe r => exact ⟨r, rfl⟩

/-- Equality of two bits, as a bit, is one exactly when they agree. -/
theorem cmpi_one {w : ℕ} (p q : BitVec w) : IntOp.cmpi CmpIPredicate.eq p q = 1#1 ↔ p = q := by
  show BitVec.ofBool (p == q) = 1#1 ↔ p = q
  cases e : (p == q) <;> simp_all

/-- Row numbers of the graph, as words, agree only when equal. -/
theorem row_word (r q : Fin 4096) : BitVec.ofNat 32 r.val = BitVec.ofNat 32 q.val ↔ r = q := by
  constructor
  · intro h
    have e := congrArg BitVec.toNat h
    rw [BitVec.toNat_ofNat, BitVec.toNat_ofNat, Nat.mod_eq_of_lt (by omega), Nat.mod_eq_of_lt (by omega)] at e
    exact Fin.ext e
  · rintro rfl
    rfl

/-- A graph in the arguments: the adjacency is zero or one, every row has a neighbour, the second adjacency is positive
on the diagonal alone, and the features and the weights are real. -/
structure Graph (x : FVec Ideal S4096x256 .f32) (adj eye : FVec Ideal S4096x4096 .f32) (W : FVec Ideal S4x256x64 .f32)
    (a b : FVec Ideal S4x64 .f32) : Prop where
  adj01 : ∀ r q, adj (ix2 r q) = (0 : EReal) ∨ adj (ix2 r q) = (1 : EReal)
  near : ∀ r, ∃ q, (0 : EReal) < adj (ix2 r q)
  diag : ∀ r q, (0 : EReal) < eye (ix2 r q) ↔ q = r
  realX : ∀ n f, ∃ r : ℝ, x (ix2 n f) = (r : EReal)
  realW : ∀ h f k, ∃ r : ℝ, W (ix3 h f k) = (r : EReal)
  realA : ∀ h k, ∃ r : ℝ, a (ix2 h k) = (r : EReal)
  realB : ∀ h k, ∃ r : ℝ, b (ix2 h k) = (r : EReal)

variable [hF : Cert.Pre_graph.Facts] (x : FVec Ideal S4096x256 .f32) (adj eye : FVec Ideal S4096x4096 .f32) (W : FVec Ideal S4x256x64 .f32) (a b : FVec Ideal S4x64 .f32)

/-- The precondition's array is all ones only of a graph. -/
theorem graph_of_pre (h : Cert.Pre_graph.fn (F := Ideal) x adj eye W a b = fun _ => 1#1) : Graph x adj eye W a b := by
  have h0 := congrFun h ix0
  pointwise [fn, fn_part1, fn_part2] at h0
  obtain ⟨h0, hb⟩ := IntOp.andi_eq_one.1 h0
  obtain ⟨h0, ha⟩ := IntOp.andi_eq_one.1 h0
  obtain ⟨h0, hW⟩ := IntOp.andi_eq_one.1 h0
  obtain ⟨h0, hx⟩ := IntOp.andi_eq_one.1 h0
  obtain ⟨h0, he⟩ := IntOp.andi_eq_one.1 h0
  obtain ⟨h0, hn⟩ := IntOp.andi_eq_one.1 h0
  refine ⟨fun r q => ?_, fun r => ?_, fun r q => ?_, fun n f => ?_, fun h f k => ?_, fun h k => ?_, fun h k => ?_⟩
  · exact (or_one _ _ (all_univ _ h0 (r, q))).imp bit_one.1 bit_one.1
  · obtain ⟨q, _, hq⟩ := (Routing.fold_ori _ _).1 (all_univ _ hn r)
    exact ⟨q, bit_one.1 hq⟩
  · have e := (cmpi_one _ _).1 (all_univ _ he (r, q))
    dsimp only at e
    refine bit_one.symm.trans ?_
    rw [e, cmpi_one, row_word]
    exact eq_comm
  · have e := bit_one.1 (all_univ _ hx (n, f))
    rw [ofBits_inf] at e
    exact real_of_abs _ e
  · have e := bit_one.1 (all_univ _ hW (h, f, k))
    rw [ofBits_inf] at e
    exact real_of_abs _ e
  · have e := bit_one.1 (all_univ _ ha (h, k))
    rw [ofBits_inf] at e
    exact real_of_abs _ e
  · have e := bit_one.1 (all_univ _ hb (h, k))
    rw [ofBits_inf] at e
    exact real_of_abs _ e

end Cert.Precond
-- ==== Proof.RefHead.lean ====
module

public import proofs.«01_k».proof.Proof.Gen.ReferenceIdeal
public import proofs.«01_k».proof.Proof.Math
public import Idealize.ShloMosaic.Lib.Pointwise
public import Idealize.ShloMosaic.Lib.StableHlo.Run

@[expose] public section

set_option maxRecDepth 16384

noncomputable section

/-! One head of the reference, as a function of the head's number, and its entries. -/

namespace Cert.RefHead

open Cert.ReferenceIdeal Cert.ReferenceIdeal.Gen Idealize.ShloMosaic Idealize.ShloMosaic.TcCoe Idealize.SL.Sem

/-- Every head's slice of the projections is one. -/
theorem slicesW (h : Fin 4) : S4x256x64.Slices ![h.val, 0, 0] S1x256x64 :=
  match h with
  | 0 => slices_S4x256x64_S1x256x64_0_0_0
  | 1 => slices_S4x256x64_S1x256x64_1_0_0
  | 2 => slices_S4x256x64_S1x256x64_2_0_0
  | 3 => slices_S4x256x64_S1x256x64_3_0_0

/-- Every head's row of the attention vectors is one. -/
theorem slicesA (h : Fin 4) : S4x64.Slices ![h.val, 0] S1x64 :=
  match h with
  | 0 => slices_S4x64_S1x64_0_0
  | 1 => slices_S4x64_S1x64_1_0
  | 2 => slices_S4x64_S1x64_2_0
  | 3 => slices_S4x64_S1x64_3_0

/-- The head's projected features `x · W[h]`. -/
def feat (x : FVec Ideal S4096x256 .f32) (W : FVec Ideal S4x256x64 .f32) (h : Fin 4) : FVec Ideal S4096x64 .f32 :=
  Host.dotGeneral dot_S4096x256_S256x64_S4096x64_1_0_0_1_n_n none x
    (shapeCast _ (extractStridedSlice S1x256x64 ![h.val, 0, 0] W (slicesW h)) shapeCasts_S1x256x64_S256x64)

/-- One half of the head's score: the projected features against the row `a[h]`. -/
def half (wh : FVec Ideal S4096x64 .f32) (a : FVec Ideal S4x64 .f32) (h : Fin 4) : FVec Ideal S4096 .f32 :=
  Host.dotGeneral dot_S4096x64_S64_S4096_1_0_0_n_n_n none wh
    (shapeCast _ (extractStridedSlice S1x64 ![h.val, 0] a (slicesA h)) shapeCasts_S1x64_S64)

/-- The leaky rectifier of the sum of the two halves. -/
def score (f1 f2 : FVec Ideal S4096 .f32) : FVec Ideal S4096x4096 .f32 :=
  let e : FVec Ideal S4096x4096 .f32 :=
    addf (broadcastInDim S4096x4096 ![0, 1] bcast_S4096x1_S4096x4096_0_1 (broadcastInDim S4096x1 ![0] bcast_S4096_S4096x1_0 f1))
      (broadcastInDim S4096x4096 ![0, 1] bcast_S1x4096_S4096x4096_0_1 (broadcastInDim S1x4096 ![1] bcast_S4096_S1x4096_1 f2))
  select (cmpf .oge e (broadcastInDim S4096x4096 ![] bcast_S_S4096x4096 (constant S_ .f32 0x00000000#32))) e
    (mulf (broadcastInDim S4096x4096 ![] bcast_S_S4096x4096 (id (constant S_ .f32 0x3E4CCCCD#32))) e)

/-- The score where the mask is positive, minus infinity elsewhere. -/
def masked (adj e : FVec Ideal S4096x4096 .f32) : FVec Ideal S4096x4096 .f32 :=
  select (cmpf .ogt adj (broadcastInDim S4096x4096 ![] bcast_S_S4096x4096 (constant S_ .f32 0x00000000#32))) e
    (broadcastInDim S4096x4096 ![] bcast_S_S4096x4096 (id (constant S_ .f32 0xFF800000#32)))

/-- The maximum of each row. -/
def rowMax (w : FVec Ideal S4096x4096 .f32) : FVec Ideal S4096 .f32 :=
  Host.reduce FloatOps.maximumf w (constant S_ .f32 0xFF800000#32) reducesTo_S4096x4096_S4096_d1 h_S_

/-- One number per row across the row, not below minus infinity. -/
def across (t : FVec Ideal S4096 .f32) : FVec Ideal S4096x4096 .f32 :=
  broadcastInDim S4096x4096 ![0, 1] bcast_S4096x1_S4096x4096_0_1 (broadcastInDim S4096x1 ![0] bcast_S4096_S4096x1_0
    (maximumf (broadcastInDim S4096 ![] bcast_S_S4096 (constant S_ .f32 0xFF800000#32)) t))

/-- The exponential of the score less its row's maximum. -/
def expo (w : FVec Ideal S4096x4096 .f32) : FVec Ideal S4096x4096 .f32 :=
  Host.exp (subf w (across (rowMax w)))

/-- The rows normalised to sum to one, applied to the projected features. -/
def attend (p : FVec Ideal S4096x4096 .f32) (wh : FVec Ideal S4096x64 .f32) : FVec Ideal S4096x64 .f32 :=
  Host.dotGeneral dot_S4096x4096_S4096x64_S4096x64_1_0_0_1_n_n none
    (Host.divf p (broadcastInDim S4096x4096 ![0, 1] bcast_S4096x1_S4096x4096_0_1 (broadcastInDim S4096x1 ![0] bcast_S4096_S4096x1_0
      (Host.reduceAdd p (constant S_ .f32 0x00000000#32) reducesTo_S4096x4096_S4096_d1 h_S_)))) wh

/-- The two attentions, mixed. -/
def mix (u v : FVec Ideal S4096x64 .f32) : FVec Ideal S4096x64 .f32 :=
  addf (mulf (broadcastInDim S4096x64 ![] bcast_S_S4096x64 (constant S_ .f32 0x3F666666#32)) u)
    (mulf (broadcastInDim S4096x64 ![] bcast_S_S4096x64 (constant S_ .f32 0x3DCCCCCD#32)) v)

/-- The exponential linear unit. -/
def unit (z : FVec Ideal S4096x64 .f32) : FVec Ideal S4096x64 .f32 :=
  select (cmpf .ogt z (broadcastInDim S4096x64 ![] bcast_S_S4096x64 (constant S_ .f32 0x00000000#32))) z
    (mulf (broadcastInDim S4096x64 ![] bcast_S_S4096x64 (constant S_ .f32 0x3F800000#32))
      (Host.expm1 (select (cmpf .ogt z (broadcastInDim S4096x64 ![] bcast_S_S4096x64 (constant S_ .f32 0x00000000#32)))
        (broadcastInDim S4096x64 ![] bcast_S_S4096x64 (id (constant S_ .f32 0x00000000#32))) z)))

/-- The head's result. -/
def head (x : FVec Ideal S4096x256 .f32) (adj eye : FVec Ideal S4096x4096 .f32) (W : FVec Ideal S4x256x64 .f32)
    (a b : FVec Ideal S4x64 .f32) (h : Fin 4) : FVec Ideal S4096x64 .f32 :=
  unit (mix (attend (expo (masked adj (score (half (feat x W h) a h) (half (feat x W h) b h)))) (feat x W h))
    (attend (expo (masked eye (score (half (feat x W h) a h) (half (feat x W h) b h)))) (feat x W h)))

/-- The projected features, entry by entry. -/
theorem feat_apply (x : FVec Ideal S4096x256 .f32) (W : FVec Ideal S4x256x64 .f32) (h : Fin 4) (n : Fin 4096) (k : Fin 64) :
    feat x W h (ix2 n k) = ∑ f : Fin 256, x (ix2 n f) * W (ix3 h f k) := by
  pointwise [feat]

/-- A row's score against one attention vector. -/
theorem half_apply (wh : FVec Ideal S4096x64 .f32) (a : FVec Ideal S4x64 .f32) (h : Fin 4) (n : Fin 4096) :
    half wh a h (ix1 n) = ∑ k : Fin 64, wh (ix2 n k) * a (ix2 h k) := by
  pointwise [half]

/-- The rectified score of a pair of rows. -/
theorem score_apply (f1 f2 : FVec Ideal S4096 .f32) (n m : Fin 4096) :
    score f1 f2 (ix2 n m) = Math.leaky (Ideal.ofBits .f32 0x3E4CCCCD#32) (f1 (ix1 n) + f2 (ix1 m)) := by
  pointwise [score]
  rfl

/-- The masked score of a pair of rows. -/
theorem masked_apply (adj e : FVec Ideal S4096x4096 .f32) (n m : Fin 4096) :
    masked adj e (ix2 n m) = Math.masked (adj (ix2 n m)) (e (ix2 n m)) := by
  pointwise [masked]
  rw [Math.masked, ← Math.ofBits_neg_inf]
  rfl

/-- A row's maximum, at any extents. -/
theorem fold_row {a b : ℕ} {u : Shape} (w : FVec Ideal ⟨2, ![a, b]⟩ .f32) (c : FVec Ideal u .f32)
    (h : (⟨2, ![a, b]⟩ : Shape).ReducesTo [1] ⟨1, ![a]⟩) (hu : 0 < u.numel) (n : Fin a) :
    Host.reduce FloatOps.maximumf w c h hu (ix1 n)
      = Finset.univ.fold max (c (Shape.Idx.first hu)) fun k : Fin b => w (ix2 n k) := by
  simp only [pointwise]

/-- A row's maximum. -/
theorem rowMax_apply (w : FVec Ideal S4096x4096 .f32) (n : Fin 4096) :
    rowMax w (ix1 n) = Finset.univ.fold max ⊥ fun m : Fin 4096 => w (ix2 n m) := by
  rw [rowMax, fold_row, ← Math.ofBits_neg_inf]
  rfl

/-- A value for every row, spread along the row. -/
theorem across_apply (t : FVec Ideal S4096 .f32) (n m : Fin 4096) :
    across t (ix2 n m) = max ⊥ (t (ix1 n)) := by
  rw [← Math.ofBits_neg_inf]
  pointwise [across]

/-- The exponential of a score less its row's maximum. -/
theorem expo_apply (w : FVec Ideal S4096x4096 .f32) (n m : Fin 4096) :
    expo w (ix2 n m) = Math.expo (fun m => w (ix2 n m)) m := by
  show Ideal.exp (w (ix2 n m) - across (rowMax w) (ix2 n m)) = _
  rw [across_apply, rowMax_apply, Math.expo]

/-- The normalised rows applied to the features, entry by entry. -/
theorem attend_apply (p : FVec Ideal S4096x4096 .f32) (wh : FVec Ideal S4096x64 .f32) (n : Fin 4096) (k : Fin 64) :
    attend p wh (ix2 n k) = Math.attend (fun m => p (ix2 n m)) (fun m => wh (ix2 m k)) := by
  pointwise [attend]
  rfl

/-- The mixture, entry by entry. -/
theorem mix_apply (u v : FVec Ideal S4096x64 .f32) (n : Fin 4096) (k : Fin 64) :
    mix u v (ix2 n k)
      = Ideal.ofBits .f32 0x3F666666#32 * u (ix2 n k) + Ideal.ofBits .f32 0x3DCCCCCD#32 * v (ix2 n k) := by
  pointwise [mix]

/-- The unit, entry by entry. -/
theorem unit_apply (z : FVec Ideal S4096x64 .f32) (n : Fin 4096) (k : Fin 64) :
    unit z (ix2 n k) = Math.unitR (z (ix2 n k)) := by
  pointwise [unit]
  rw [Math.unitR, one_mul, ← Ideal.ofBits_zero_f32]
  rfl

/-- The head's entry: the reference's mixed attention over the head's features, through its exponential linear unit. -/
theorem head_apply (x : FVec Ideal S4096x256 .f32) (adj eye : FVec Ideal S4096x4096 .f32) (W : FVec Ideal S4x256x64 .f32)
    (a b : FVec Ideal S4x64 .f32) (h : Fin 4) (n : Fin 4096) (k : Fin 64) :
    head x adj eye W a b h (ix2 n k)
      = Math.unitR (Math.mixR (Ideal.ofBits .f32 0x3F666666#32) (Ideal.ofBits .f32 0x3DCCCCCD#32)
          (fun m => adj (ix2 n m)) (fun m => eye (ix2 n m))
          (fun m => Math.leaky (Ideal.ofBits .f32 0x3E4CCCCD#32)
            ((∑ k : Fin 64, feat x W h (ix2 n k) * a (ix2 h k)) + ∑ k : Fin 64, feat x W h (ix2 m k) * b (ix2 h k)))
          fun m => feat x W h (ix2 m k)) := by
  simp only [head, unit_apply, mix_apply, attend_apply, expo_apply, masked_apply, score_apply, half_apply]
  rfl

/-- The reference's result: the four heads side by side. -/
def result (x : FVec Ideal S4096x256 .f32) (adj eye : FVec Ideal S4096x4096 .f32) (W : FVec Ideal S4x256x64 .f32)
    (a b : FVec Ideal S4x64 .f32) : FVec Ideal S4096x256 .f32 :=
  concatenate S4096x256 1 [⟨S4096x64, head x adj eye W a b 0⟩, ⟨S4096x64, head x adj eye W a b 1⟩,
    ⟨S4096x64, head x adj eye W a b 2⟩, ⟨S4096x64, head x adj eye W a b 3⟩]
    concatenates_S4096x64_S4096x64_S4096x64_S4096x64_S4096x256_d1

/-- The result's entry is its head's. -/
theorem result_apply (x : FVec Ideal S4096x256 .f32) (adj eye : FVec Ideal S4096x4096 .f32) (W : FVec Ideal S4x256x64 .f32)
    (a b : FVec Ideal S4x64 .f32) (n : Fin 4096) (j : Fin 256) :
    result x adj eye W a b (ix2 n j)
      = head x adj eye W a b ⟨j.val / 64, by omega⟩ (ix2 n ⟨j.val % 64, Nat.mod_lt _ (by norm_num)⟩) := by
  have key : ∀ (h h' : Fin 4) (k k' : Fin 64), h.val = h'.val → k.val = k'.val →
      head x adj eye W a b h (ix2 n k) = head x adj eye W a b h' (ix2 n k') := by
    intro h h' k k' e e'
    rw [Fin.ext e, Fin.ext e']
  have hj := j.isLt
  pointwise [result]
  split_ifs <;> first
    | exact absurd rfl ‹¬ _ = _›
    | exact key _ _ _ _ (by show 0 = j.val / 64; omega) (by show j.val = j.val % 64; omega)
    | exact key _ _ _ _ (by show 1 = j.val / 64; omega) (by show j.val - 64 = j.val % 64; omega)
    | exact key _ _ _ _ (by show 2 = j.val / 64; omega) (by show j.val - 64 - 64 = j.val % 64; omega)
    | exact key _ _ _ _ (by show 3 = j.val / 64; omega) (by show j.val - 64 - 64 - 64 = j.val % 64; omega)

end Cert.RefHead
-- ==== Proof.RefRun.lean ====
module

public import proofs.«01_k».proof.Proof.Gen.ReferenceIdeal.Run
public import proofs.«01_k».proof.Proof.RefHead

@[expose] public section

set_option maxRecDepth 16384

noncomputable section

/-! The reference's printed result, as its four heads side by side. -/

namespace Cert.RefHead

open Cert.ReferenceIdeal Cert.ReferenceIdeal.Gen Cert.ReferenceIdeal.Value Idealize.ShloMosaic Idealize.ShloMosaic.TcCoe Idealize.SL.Sem

/-- The printed result is the four heads side by side. -/
theorem printed (V0 : Valuation τ sig (Elt Ideal)) :
    val5 V0 (Proc.devRef .tc main_v204)
      = result (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5)) := by
  rw [val5_main_v204]
  rfl

end Cert.RefHead
-- ==== Proof.Equation.lean ====
module

public import proofs.«01_k».proof.Proof.Host
public import proofs.«01_k».proof.Proof.Pre
public import proofs.«01_k».proof.Proof.RefRun

@[expose] public section

set_option maxRecDepth 16384

noncomputable section

/-! The kernel's result is the reference's, on a graph. -/

namespace Cert.Equation

open Cert.KernelIdeal Cert.KernelIdeal.Gen Idealize.ShloMosaic Idealize.ShloMosaic.TcCoe Idealize.SL.Sem Cert.Host

variable (m : (ℓ : Loc nD τ sig) → Buf (Elt Ideal) ℓ) (c : Dev nD)

/-- The second adjacency. -/
abbrev argEye : FVec Ideal S4096x4096 .f32 := m ((c : Thread nD τ).loc main_arg2)

/-- The reference's result at a row and a head's column, from the argument arrays. -/
theorem reference_at (n : Fin 4096) (j : Fin 256) (h : Fin 4) (k : Fin 64) (eh : h.val = j.val / 64) (ek : k.val = j.val % 64) :
    RefHead.result (argX m c) (argAdj m c) (argEye m c) (argW m c) (argA m c) (argB m c) (ix2 n j)
      = Math.unitR (Math.mixR (Ideal.ofBits .f32 0x3F666666#32) (Ideal.ofBits .f32 0x3DCCCCCD#32)
          (fun q => argAdj m c (ix2 n q)) (fun q => argEye m c (ix2 n q))
          (fun q => Math.leaky (Ideal.ofBits .f32 0x3E4CCCCD#32) (score₁ m c n h + score₂ m c q h)) (fun q => wh m c q h k)) := by
  rw [RefHead.result_apply, ← show h = ⟨j.val / 64, by omega⟩ from Fin.ext eh, ← show k = ⟨j.val % 64, by omega⟩ from Fin.ext ek,
    RefHead.head_apply]
  simp only [RefHead.feat_apply]
  rfl

/-- On a graph, the kernel's result array is the reference's. -/
theorem equal (hg : Precond.Graph (argX m c) (argAdj m c) (argEye m c) (argW m c) (argA m c) (argB m c)) :
    Value.G5 m c = RefHead.result (argX m c) (argAdj m c) (argEye m c) (argW m c) (argA m c) (argB m c) := by
  funext i
  obtain ⟨n, j, rfl⟩ : ∃ (n : Fin 4096) (j : Fin 256), i = ix2 n j := ⟨i 0, i 1, eq_ix2 i⟩
  have lt : j.val / 64 < 4 := by omega
  have ltk : j.val % 64 < 64 := Nat.mod_lt _ (by norm_num)
  have key : ∀ (h : Fin 4) (k : Fin 64), h.val = j.val / 64 → k.val = j.val % 64 → Value.G5 m c (ix2 n j)
      = RefHead.result (argX m c) (argAdj m c) (argEye m c) (argW m c) (argA m c) (argB m c) (ix2 n j) := by
    intro h k eh ek
    rw [result_at m c n j h k eh ek, reference_at m c n j h k eh ek, Math.unit_eq]
    have rw' : ∀ n h k, ∃ r : ℝ, wh m c n h k = r := fun n h k => Math.dot_real _ _ (hg.realX n) fun f => hg.realW h f k
    have rs₁ : ∀ n h, ∃ r : ℝ, score₁ m c n h = r := fun n h => Math.dot_real _ _ (rw' n h) (hg.realA h)
    have rs₂ : ∀ n h, ∃ r : ℝ, score₂ m c n h = r := fun n h => Math.dot_real _ _ (rw' n h) (hg.realB h)
    choose y hy using rw'
    choose f₁ h₁ using rs₁
    choose f₂ h₂ using rs₂
    obtain ⟨α, eα, h0, h1⟩ := Math.ofBits_slope
    obtain ⟨c₁, e₁⟩ := Math.ofBits_major
    obtain ⟨c₂, e₂⟩ := Math.ofBits_minor
    simp only [hy, h₁, h₂, eα, e₁, e₂]
    exact congrArg Math.unitR (Math.mix_eq c₁ c₂ α (f₁ n h) h0 h1 (fun q => f₂ q h) (fun q => y q h k) _ _ n (hg.adj01 n) (hg.near n)
      fun q => hg.diag n q)
  exact key ⟨_, lt⟩ ⟨_, ltk⟩ rfl rfl

end Cert.Equation
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_graph
public import proofs.«01_k».proof.Proof.Equation
public import Idealize.ShloMosaic.Adequacy
public import Idealize.ShloMosaic.Init

@[expose] public section

set_option maxRecDepth 16384

noncomputable section

namespace Cert.Proof

open Idealize.ShloMosaic Idealize.SL.Sem

/-- The kernel, read word for word, ends with its arguments unchanged and its counters at zero. -/
theorem frame_kernel : Cert.quiescent_Kernel := fun m ρ _ => Cert.Kernel.Gen.frame m ρ

/-- So does the kernel read over extended reals. -/
theorem frame_ideal : Cert.quiescent_KernelIdeal := fun m ρ _ => Cert.KernelIdeal.Gen.frame m ρ

/-- The same from the memories of the precondition. -/
theorem frame_ideal_graph : Cert.quiescent_KernelIdeal_pre_graph := fun m ρ _ => Cert.KernelIdeal.Gen.frame m ρ

/-- The reference ends with its arguments unchanged; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from the memories of the precondition. -/
theorem frame_reference_graph : Cert.quiescent_ReferenceIdeal_pre_graph := fun m ρ _ => frame_reference m ρ trivial

/-- The reference ends with its four heads side by side in its result. -/
theorem run_reference (m : (ℓ : Loc Cert.ReferenceIdeal.nD Cert.ReferenceIdeal.τ Cert.ReferenceIdeal.sig) → Buf (Elt Ideal) ℓ)
    (c : Dev Cert.ReferenceIdeal.nD) :
    Cert.ReferenceIdeal.Value.val5 (StableHlo.launchContents m c) (Proc.devRef .tc Cert.ReferenceIdeal.main_v204)
      = RefHead.result (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5)) :=
  RefHead.printed (StableHlo.launchContents m c)

/-- From memories that agree on the arguments, and hold a graph, the kernel and the reference end with equal results. -/
theorem equal_results : Cert.algebraic_KernelIdeal_ReferenceIdeal_pre_graph := by
  intro m g m' g' hpre hagree
  refine ⟨fun c => Cert.KernelIdeal.Value.G5 m c, Cert.KernelIdeal.Value.run (F := Ideal) m g, ?_⟩
  refine (θ_run Cert.ReferenceIdeal.defs _ _).mono (fun r h c => ⟨(h c).1.trans ?_, (h c).2⟩)
    (Cert.ReferenceIdeal.Value.run (F := Ideal) m' g')
  refine (Cert.ReferenceIdeal.Value.val5_main_v204 (StableHlo.launchContents m' c)).symm.trans ((run_reference m' c).trans ?_)
  obtain ⟨e0, e1, e2, e3, e4, e5⟩ := hagree c
  rw [e0, e1, e2, e3, e4, e5]
  exact (Equation.equal m c (Precond.graph_of_pre _ _ _ _ _ _ (hpre c))).symm

/-- All the claims. -/
theorem claim : Cert.Claim := ⟨Cert.Kernel.Gen.facts, Cert.KernelIdeal.Gen.facts, Cert.ReferenceIdeal.Gen.facts, Cert.Pre_graph.Gen.facts,
  frame_kernel, frame_ideal, frame_ideal_graph, frame_reference, frame_reference_graph, trivial, equal_results⟩

end Cert.Proof

end
